-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_ok [hPre_scale_ok : Cert.Pre_scale_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_ok [hPre_scale_ok : Cert.Pre_scale_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scale_ok [hKernelIdeal : Cert.KernelIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scale_ok [hReferenceIdeal : Cert.ReferenceIdeal.Facts] [hPre_scale_ok : Cert.Pre_scale_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_scale_ok [hKernelIdeal : Cert.KernelIdeal.Facts] [hReferenceIdeal : Cert.ReferenceIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scale_ok : Cert.Pre_scale_ok.Facts),
    quiescent_Kernel (hKernel := hKernel)
    ∧ quiescent_KernelIdeal (hKernelIdeal := hKernelIdeal)
    ∧ quiescent_KernelIdeal_pre_scale_ok (hKernelIdeal := hKernelIdeal) (hPre_scale_ok := hPre_scale_ok)
    ∧ quiescent_ReferenceIdeal (hReferenceIdeal := hReferenceIdeal)
    ∧ quiescent_ReferenceIdeal_pre_scale_ok (hReferenceIdeal := hReferenceIdeal) (hPre_scale_ok := hPre_scale_ok)
    ∧ preserves_Kernel_KernelIdeal
    ∧ algebraic_KernelIdeal_ReferenceIdeal_pre_scale_ok (hKernelIdeal := hKernelIdeal) (hReferenceIdeal := hReferenceIdeal) (hPre_scale_ok := hPre_scale_ok)
-- ==== Pre_scale_ok.lean ====
abbrev S8x1280x32x576 : Shape := ⟨4, ![8, 1280, 32, 576]⟩
abbrev S8x1280x32 : Shape := ⟨3, ![8, 1280, 32]⟩
abbrev S8x1280x576 : Shape := ⟨3, ![8, 1280, 576]⟩
abbrev S8x1280 : Shape := ⟨2, ![8, 1280]⟩
abbrev S8x1280x32x512 : Shape := ⟨4, ![8, 1280, 32, 512]⟩
abbrev S_ : Shape := ⟨0, ![]⟩

class Facts : Prop where
  bcast_S_S8x1280 : S_.BroadcastsInDim S8x1280 (![] : Fin 0 → Fin S8x1280.rank)

variable [Facts]

def fn {F : FTy → Type} [FloatOps F] (main_arg0 : FVec F S8x1280x32x576 .fp8e4m3) (main_arg1 : FVec F S8x1280x32 .f32) (main_arg2 : FVec F S8x1280x576 .fp8e4m3) (main_arg3 : FVec F S8x1280 .f32) (main_arg4 : FVec F S8x1280x32x512 .bf16) (main_arg5 : FVec F S8x1280x32 .f32) (main_arg6 : FVec F S8x1280x32x512 .fp8e5m2) (main_arg7 : FVec F S8x1280 .f32) : IVec S8x1280 1 :=
  let main_cst : FVec F S_ .f32 := constant S_ .f32 0x00000000#32
  let main_v0 : FVec F S8x1280 .f32 := broadcastInDim S8x1280 ![] bcast_S_S8x1280 main_cst
  let main_v1 : IVec S8x1280 1 := cmpf .oge main_arg7 main_v0
  let main_cst_0 : FVec F S_ .f32 := constant S_ .f32 0x7F800000#32
  let main_v2 : FVec F S8x1280 .f32 := broadcastInDim S8x1280 ![] bcast_S_S8x1280 main_cst_0
  let main_v3 : IVec S8x1280 1 := cmpf .olt main_arg7 main_v2
  let main_v4 : IVec S8x1280 1 := andi main_v1 main_v3
  main_v4
-- ==== Kernel.lean ====
abbrev S8x1280x32x576 : Shape := ⟨4, ![8, 1280, 32, 576]⟩
abbrev S8x1280x32 : Shape := ⟨3, ![8, 1280, 32]⟩
abbrev S8x1280x576 : Shape := ⟨3, ![8, 1280, 576]⟩
abbrev S8x1280 : Shape := ⟨2, ![8, 1280]⟩
abbrev S8x1280x32x512 : Shape := ⟨4, ![8, 1280, 32, 512]⟩
abbrev S8x40960x576 : Shape := ⟨3, ![8, 40960, 576]⟩
abbrev S8x40960x512 : Shape := ⟨3, ![8, 40960, 512]⟩
abbrev S8x80x1x512 : Shape := ⟨4, ![8, 80, 1, 512]⟩
abbrev S8x1280x1 : Shape := ⟨3, ![8, 1280, 1]⟩
abbrev S8x1x1280 : Shape := ⟨3, ![8, 1, 1280]⟩
abbrev S8x1280x512 : Shape := ⟨3, ![8, 1280, 512]⟩
abbrev S8x1280x64 : Shape := ⟨3, ![8, 1280, 64]⟩
abbrev S1x512x576 : Shape := ⟨3, ![1, 512, 576]⟩
abbrev S1x1280x576 : Shape := ⟨3, ![1, 1280, 576]⟩
abbrev S1x512x512 : Shape := ⟨3, ![1, 512, 512]⟩
abbrev S1x1x1x512 : Shape := ⟨4, ![1, 1, 1, 512]⟩
abbrev S1x1x1280 : Shape := ⟨3, ![1, 1, 1280]⟩
abbrev S1x1280x512 : Shape := ⟨3, ![1, 1280, 512]⟩
abbrev S1x1280x64 : Shape := ⟨3, ![1, 1280, 64]⟩
abbrev S576x1280 : Shape := ⟨2, ![576, 1280]⟩
abbrev S1280x128 : Shape := ⟨2, ![1280, 128]⟩
abbrev S1280x512 : Shape := ⟨2, ![1280, 512]⟩
abbrev S64x1280 : Shape := ⟨2, ![64, 1280]⟩
abbrev S1x1280 : Shape := ⟨2, ![1, 1280]⟩
abbrev S128x1280 : Shape := ⟨2, ![128, 1280]⟩
abbrev S128x1 : Shape := ⟨2, ![128, 1]⟩
abbrev S1x128x576 : Shape := ⟨3, ![1, 128, 576]⟩
abbrev S128x576 : Shape := ⟨2, ![128, 576]⟩
abbrev S128x128 : Shape := ⟨2, ![128, 128]⟩
abbrev S128x64 : Shape := ⟨2, ![128, 64]⟩
abbrev S64x128 : Shape := ⟨2, ![64, 128]⟩
abbrev S512x512 : Shape := ⟨2, ![512, 512]⟩
abbrev S512x128 : Shape := ⟨2, ![512, 128]⟩
abbrev S1x512 : Shape := ⟨2, ![1, 512]⟩
abbrev S128x512 : Shape := ⟨2, ![128, 512]⟩
abbrev S512 : Shape := ⟨1, ![512]⟩
abbrev S1x256x576 : Shape := ⟨3, ![1, 256, 576]⟩
abbrev S256x576 : Shape := ⟨2, ![256, 576]⟩
abbrev S512x576 : Shape := ⟨2, ![512, 576]⟩
abbrev S256x512 : Shape := ⟨2, ![256, 512]⟩
abbrev S256x128 : Shape := ⟨2, ![256, 128]⟩
abbrev S256x1 : Shape := ⟨2, ![256, 1]⟩
abbrev S512x64 : Shape := ⟨2, ![512, 64]⟩
abbrev S64x512 : Shape := ⟨2, ![64, 512]⟩
abbrev S1x256x512 : Shape := ⟨3, ![1, 256, 512]⟩
abbrev S64x256 : Shape := ⟨2, ![64, 256]⟩
abbrev S576x256 : Shape := ⟨2, ![576, 256]⟩
abbrev S576x512 : Shape := ⟨2, ![576, 512]⟩
abbrev S1x512x128 : Shape := ⟨3, ![1, 512, 128]⟩
abbrev S1x512x64 : Shape := ⟨3, ![1, 512, 64]⟩
abbrev S1x768x512 : Shape := ⟨3, ![1, 768, 512]⟩
abbrev S768x512 : Shape := ⟨2, ![768, 512]⟩
abbrev S64x768 : Shape := ⟨2, ![64, 768]⟩
abbrev S576x768 : Shape := ⟨2, ![576, 768]⟩
abbrev S1x1024x512 : Shape := ⟨3, ![1, 1024, 512]⟩
abbrev S1024x512 : Shape := ⟨2, ![1024, 512]⟩
abbrev S64x1024 : Shape := ⟨2, ![64, 1024]⟩
abbrev S576x1024 : Shape := ⟨2, ![576, 1024]⟩
abbrev S1x128x64 : Shape := ⟨3, ![1, 128, 64]⟩

abbrev nBuf : Space → Nat
  | .hbm => 20
  | .vmem => 28
  | .smem => 0
  | _ => 0

abbrev bufTy : (tb : Table) → Fin (tcTables nBuf tb) → BufTy
  | .hbm, ⟨0, _⟩ => ⟨S8x1280x32x576, .fp8e4m3⟩
  | .hbm, ⟨1, _⟩ => ⟨S8x1280x32, .f32⟩
  | .hbm, ⟨2, _⟩ => ⟨S8x1280x576, .fp8e4m3⟩
  | .hbm, ⟨3, _⟩ => ⟨S8x1280, .f32⟩
  | .hbm, ⟨4, _⟩ => ⟨S8x1280x32x512, .bf16⟩
  | .hbm, ⟨5, _⟩ => ⟨S8x1280x32, .f32⟩
  | .hbm, ⟨6, _⟩ => ⟨S8x1280x32x512, .fp8e5m2⟩
  | .hbm, ⟨7, _⟩ => ⟨S8x1280, .f32⟩
  | .hbm, ⟨8, _⟩ => ⟨S8x40960x576, .fp8e4m3⟩
  | .hbm, ⟨9, _⟩ => ⟨S8x40960x512, .bf16⟩
  | .hbm, ⟨10, _⟩ => ⟨S8x40960x512, .fp8e5m2⟩
  | .hbm, ⟨11, _⟩ => ⟨S8x80x1x512, .f32⟩
  | .hbm, ⟨12, _⟩ => ⟨S8x80x1x512, .f32⟩
  | .hbm, ⟨13, _⟩ => ⟨S8x1280x1, .f32⟩
  | .hbm, ⟨14, _⟩ => ⟨S8x1280x32, .f32⟩
  | .hbm, ⟨15, _⟩ => ⟨S8x80x1x512, .f32⟩
  | .hbm, ⟨16, _⟩ => ⟨S8x1x1280, .f32⟩
  | .hbm, ⟨17, _⟩ => ⟨S8x40960x576, .bf16⟩
  | .hbm, ⟨18, _⟩ => ⟨S8x1280x512, .f32⟩
  | .hbm, ⟨19, _⟩ => ⟨S8x1280x64, .f32⟩
  | .local _ .vmem, ⟨0, _⟩ => ⟨S1x512x576, .fp8e4m3⟩
  | .local _ .vmem, ⟨1, _⟩ => ⟨S1x512x576, .fp8e4m3⟩
  | .local _ .vmem, ⟨2, _⟩ => ⟨S1x1280x576, .fp8e4m3⟩
  | .local _ .vmem, ⟨3, _⟩ => ⟨S1x1280x576, .fp8e4m3⟩
  | .local _ .vmem, ⟨4, _⟩ => ⟨S1x512x512, .bf16⟩
  | .local _ .vmem, ⟨5, _⟩ => ⟨S1x512x512, .bf16⟩
  | .local _ .vmem, ⟨6, _⟩ => ⟨S1x512x512, .fp8e5m2⟩
  | .local _ .vmem, ⟨7, _⟩ => ⟨S1x512x512, .fp8e5m2⟩
  | .local _ .vmem, ⟨8, _⟩ => ⟨S1x1x1x512, .f32⟩
  | .local _ .vmem, ⟨9, _⟩ => ⟨S1x1x1x512, .f32⟩
  | .local _ .vmem, ⟨10, _⟩ => ⟨S1x1x1x512, .f32⟩
  | .local _ .vmem, ⟨11, _⟩ => ⟨S1x1x1x512, .f32⟩
  | .local _ .vmem, ⟨12, _⟩ => ⟨S1x1x1x512, .f32⟩
  | .local _ .vmem, ⟨13, _⟩ => ⟨S1x1x1x512, .f32⟩
  | .local _ .vmem, ⟨14, _⟩ => ⟨S1x1x1280, .f32⟩
  | .local _ .vmem, ⟨15, _⟩ => ⟨S1x1x1280, .f32⟩
  | .local _ .vmem, ⟨16, _⟩ => ⟨S1x512x576, .bf16⟩
  | .local _ .vmem, ⟨17, _⟩ => ⟨S1x512x576, .bf16⟩
  | .local _ .vmem, ⟨18, _⟩ => ⟨S1x1280x512, .f32⟩
  | .local _ .vmem, ⟨19, _⟩ => ⟨S1x1280x512, .f32⟩
  | .local _ .vmem, ⟨20, _⟩ => ⟨S1x1280x64, .f32⟩
  | .local _ .vmem, ⟨21, _⟩ => ⟨S1x1280x64, .f32⟩
  | .local _ .vmem, ⟨22, _⟩ => ⟨S576x1280, .bf16⟩
  | .local _ .vmem, ⟨23, _⟩ => ⟨S1280x128, .f32⟩
  | .local _ .vmem, ⟨24, _⟩ => ⟨S1280x512, .bf16⟩
  | .local _ .vmem, ⟨25, _⟩ => ⟨S1280x512, .bf16⟩
  | .local _ .vmem, ⟨26, _⟩ => ⟨S1280x512, .bf16⟩
  | .local _ .vmem, ⟨27, _⟩ => ⟨S64x1280, .f32⟩
  | _, _ => ⟨S8x1280x32x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 80], ![false, false]⟩

def k0_cond2 (i : grid0.Coords) : BitVec 1 :=
  let arg1 : BitVec 32 := BitVec.ofNat 32 (i 1).val
  let c0_i32_32 : BitVec 32 := 0#32
  let v68 : BitVec 1 := Scalar.cmpi .sgt arg1 c0_i32_32
  let v69 : BitVec 32 := Scalar.extui v68
  let c0_i32_33 : BitVec 32 := 0#32
  let v70 : BitVec 1 := Scalar.cmpi .slt arg1 c0_i32_33
  let v71 : BitVec 32 := Scalar.extui v70
  let v72 : BitVec 32 := Scalar.subi v69 v71
  let c16_i32_31 : BitVec 32 := 16#32
  let c0_i32_34 : BitVec 32 := 0#32
  let v73 : BitVec 1 := Scalar.cmpi .sgt c16_i32_31 c0_i32_34
  let v74 : BitVec 32 := Scalar.extui v73
  let c0_i32_35 : BitVec 32 := 0#32
  let v75 : BitVec 1 := Scalar.cmpi .slt c16_i32_31 c0_i32_35
  let v76 : BitVec 32 := Scalar.extui v75
  let v77 : BitVec 32 := Scalar.subi v74 v76
  let v78 : BitVec 1 := Scalar.cmpi .ne v72 v77
  let v79 : BitVec 32 := Scalar.remsi arg1 c16_i32_31
  let c0_i32_36 : BitVec 32 := 0#32
  let v80 : BitVec 1 := Scalar.cmpi .ne v79 c0_i32_36
  let v81 : BitVec 1 := Scalar.andi v78 v80
  let v67 : BitVec 32 := Scalar.divsi arg1 c16_i32_31
  let c1_i32_37 : BitVec 32 := 1#32
  let v82 : BitVec 32 := Scalar.subi v67 c1_i32_37
  let v83 : BitVec 32 := Scalar.select v81 v82 v67
  let c0_i32_38 : BitVec 32 := 0#32
  let v84 : BitVec 1 := Scalar.cmpi .eq v83 c0_i32_38
  let v85 : BitVec 32 := Scalar.extui v84
  let c0_i32_39 : BitVec 32 := 0#32
  let v86 : BitVec 1 := Scalar.cmpi .ne v85 c0_i32_39
  v86

def k0_cond3 (i : grid0.Coords) : BitVec 1 :=
  let arg1 : BitVec 32 := BitVec.ofNat 32 (i 1).val
  let c0_i32_41 : BitVec 32 := 0#32
  let v88 : BitVec 1 := Scalar.cmpi .sgt arg1 c0_i32_41
  let v89 : BitVec 32 := Scalar.extui v88
  let c0_i32_42 : BitVec 32 := 0#32
  let v90 : BitVec 1 := Scalar.cmpi .slt arg1 c0_i32_42
  let v91 : BitVec 32 := Scalar.extui v90
  let v92 : BitVec 32 := Scalar.subi v89 v91
  let c16_i32_40 : BitVec 32 := 16#32
  let c0_i32_43 : BitVec 32 := 0#32
  let v93 : BitVec 1 := Scalar.cmpi .sgt c16_i32_40 c0_i32_43
  let v94 : BitVec 32 := Scalar.extui v93
  let c0_i32_44 : BitVec 32 := 0#32
  let v95 : BitVec 1 := Scalar.cmpi .slt c16_i32_40 c0_i32_44
  let v96 : BitVec 32 := Scalar.extui v95
  let v97 : BitVec 32 := Scalar.subi v94 v96
  let v98 : BitVec 1 := Scalar.cmpi .ne v92 v97
  let v99 : BitVec 32 := Scalar.remsi arg1 c16_i32_40
  let c0_i32_45 : BitVec 32 := 0#32
  let v100 : BitVec 1 := Scalar.cmpi .ne v99 c0_i32_45
  let v101 : BitVec 1 := Scalar.andi v98 v100
  let v87 : BitVec 32 := Scalar.divsi arg1 c16_i32_40
  let c1_i32_46 : BitVec 32 := 1#32
  let v102 : BitVec 32 := Scalar.subi v87 c1_i32_46
  let v103 : BitVec 32 := Scalar.select v101 v102 v87
  let c1_i32_47 : BitVec 32 := 1#32
  let v104 : BitVec 1 := Scalar.cmpi .eq v103 c1_i32_47
  let v105 : BitVec 32 := Scalar.extui v104
  let c0_i32_48 : BitVec 32 := 0#32
  let v106 : BitVec 1 := Scalar.cmpi .ne v105 c0_i32_48
  v106

def k0_cond4 (i : grid0.Coords) : BitVec 1 :=
  let arg1 : BitVec 32 := BitVec.ofNat 32 (i 1).val
  let c0_i32_50 : BitVec 32 := 0#32
  let v108 : BitVec 1 := Scalar.cmpi .sgt arg1 c0_i32_50
  let v109 : BitVec 32 := Scalar.extui v108
  let c0_i32_51 : BitVec 32 := 0#32
  let v110 : BitVec 1 := Scalar.cmpi .slt arg1 c0_i32_51
  let v111 : BitVec 32 := Scalar.extui v110
  let v112 : BitVec 32 := Scalar.subi v109 v111
  let c16_i32_49 : BitVec 32 := 16#32
  let c0_i32_52 : BitVec 32 := 0#32
  let v113 : BitVec 1 := Scalar.cmpi .sgt c16_i32_49 c0_i32_52
  let v114 : BitVec 32 := Scalar.extui v113
  let c0_i32_53 : BitVec 32 := 0#32
  let v115 : BitVec 1 := Scalar.cmpi .slt c16_i32_49 c0_i32_53
  let v116 : BitVec 32 := Scalar.extui v115
  let v117 : BitVec 32 := Scalar.subi v114 v116
  let v118 : BitVec 1 := Scalar.cmpi .ne v112 v117
  let v119 : BitVec 32 := Scalar.remsi arg1 c16_i32_49
  let c0_i32_54 : BitVec 32 := 0#32
  let v120 : BitVec 1 := Scalar.cmpi .ne v119 c0_i32_54
  let v121 : BitVec 1 := Scalar.andi v118 v120
  let v107 : BitVec 32 := Scalar.divsi arg1 c16_i32_49
  let c1_i32_55 : BitVec 32 := 1#32
  let v122 : BitVec 32 := Scalar.subi v107 c1_i32_55
  let v123 : BitVec 32 := Scalar.select v121 v122 v107
  let c2_i32 : BitVec 32 := 2#32
  let v124 : BitVec 1 := Scalar.cmpi .eq v123 c2_i32
  let v125 : BitVec 32 := Scalar.extui v124
  let c0_i32_56 : BitVec 32 := 0#32
  let v126 : BitVec 1 := Scalar.cmpi .ne v125 c0_i32_56
  v126

def k0_cond5 (i : grid0.Coords) : BitVec 1 :=
  let arg1 : BitVec 32 := BitVec.ofNat 32 (i 1).val
  let c0_i32_58 : BitVec 32 := 0#32
  let v128 : BitVec 1 := Scalar.cmpi .sgt arg1 c0_i32_58
  let v129 : BitVec 32 := Scalar.extui v128
  let c0_i32_59 : BitVec 32 := 0#32
  let v130 : BitVec 1 := Scalar.cmpi .slt arg1 c0_i32_59
  let v131 : BitVec 32 := Scalar.extui v130
  let v132 : BitVec 32 := Scalar.subi v129 v131
  let c16_i32_57 : BitVec 32 := 16#32
  let c0_i32_60 : BitVec 32 := 0#32
  let v133 : BitVec 1 := Scalar.cmpi .sgt c16_i32_57 c0_i32_60
  let v134 : BitVec 32 := Scalar.extui v133
  let c0_i32_61 : BitVec 32 := 0#32
  let v135 : BitVec 1 := Scalar.cmpi .slt c16_i32_57 c0_i32_61
  let v136 : BitVec 32 := Scalar.extui v135
  let v137 : BitVec 32 := Scalar.subi v134 v136
  let v138 : BitVec 1 := Scalar.cmpi .ne v132 v137
  let v139 : BitVec 32 := Scalar.remsi arg1 c16_i32_57
  let c0_i32_62 : BitVec 32 := 0#32
  let v140 : BitVec 1 := Scalar.cmpi .ne v139 c0_i32_62
  let v141 : BitVec 1 := Scalar.andi v138 v140
  let v127 : BitVec 32 := Scalar.divsi arg1 c16_i32_57
  let c1_i32_63 : BitVec 32 := 1#32
  let v142 : BitVec 32 := Scalar.subi v127 c1_i32_63
  let v143 : BitVec 32 := Scalar.select v141 v142 v127
  let c3_i32 : BitVec 32 := 3#32
  let v144 : BitVec 1 := Scalar.cmpi .eq v143 c3_i32
  let v145 : BitVec 32 := Scalar.extui v144
  let c0_i32_64 : BitVec 32 := 0#32
  let v146 : BitVec 1 := Scalar.cmpi .ne v145 c0_i32_64
  v146

def k0_cond6 (i : grid0.Coords) : BitVec 1 :=
  let arg1 : BitVec 32 := BitVec.ofNat 32 (i 1).val
  let c0_i32_66 : BitVec 32 := 0#32
  let v148 : BitVec 1 := Scalar.cmpi .sgt arg1 c0_i32_66
  let v149 : BitVec 32 := Scalar.extui v148
  let c0_i32_67 : BitVec 32 := 0#32
  let v150 : BitVec 1 := Scalar.cmpi .slt arg1 c0_i32_67
  let v151 : BitVec 32 := Scalar.extui v150
  let v152 : BitVec 32 := Scalar.subi v149 v151
  let c16_i32_65 : BitVec 32 := 16#32
  let c0_i32_68 : BitVec 32 := 0#32
  let v153 : BitVec 1 := Scalar.cmpi .sgt c16_i32_65 c0_i32_68
  let v154 : BitVec 32 := Scalar.extui v153
  let c0_i32_69 : BitVec 32 := 0#32
  let v155 : BitVec 1 := Scalar.cmpi .slt c16_i32_65 c0_i32_69
  let v156 : BitVec 32 := Scalar.extui v155
  let v157 : BitVec 32 := Scalar.subi v154 v156
  let v158 : BitVec 1 := Scalar.cmpi .ne v152 v157
  let v159 : BitVec 32 := Scalar.remsi arg1 c16_i32_65
  let c0_i32_70 : BitVec 32 := 0#32
  let v160 : BitVec 1 := Scalar.cmpi .ne v159 c0_i32_70
  let v161 : BitVec 1 := Scalar.andi v158 v160
  let v147 : BitVec 32 := Scalar.divsi arg1 c16_i32_65
  let c1_i32_71 : BitVec 32 := 1#32
  let v162 : BitVec 32 := Scalar.subi v147 c1_i32_71
  let v163 : BitVec 32 := Scalar.select v161 v162 v147
  let c4_i32 : BitVec 32 := 4#32
  let v164 : BitVec 1 := Scalar.cmpi .eq v163 c4_i32
  let v165 : BitVec 32 := Scalar.extui v164
  let c0_i32_72 : BitVec 32 := 0#32
  let v166 : BitVec 1 := Scalar.cmpi .ne v165 c0_i32_72
  v166

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond7 (i : grid0.Coords) : BitVec 1 :=
  let arg1 : BitVec 32 := BitVec.ofNat 32 (i 1).val
  let c79_i32 : BitVec 32 := 79#32
  let v167 : BitVec 1 := Scalar.cmpi .eq arg1 c79_i32
  let v168 : BitVec 32 := Scalar.extui v167
  let c0_i32_73 : BitVec 32 := 0#32
  let v169 : BitVec 1 := Scalar.cmpi .ne v168 c0_i32_73
  v169

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x576 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x576 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x576 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1280x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1280x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8x1280x32x576 : Shape := ⟨4, ![8, 1280, 32, 576]⟩
abbrev S8x1280x32 : Shape := ⟨3, ![8, 1280, 32]⟩
abbrev S8x1280x576 : Shape := ⟨3, ![8, 1280, 576]⟩
abbrev S8x1280 : Shape := ⟨2, ![8, 1280]⟩
abbrev S8x1280x32x512 : Shape := ⟨4, ![8, 1280, 32, 512]⟩
abbrev S_ : Shape := ⟨0, ![]⟩
abbrev S8x1280x1 : Shape := ⟨3, ![8, 1280, 1]⟩
abbrev S8x1280x32x1 : Shape := ⟨4, ![8, 1280, 32, 1]⟩
abbrev S8x1280x1x1 : Shape := ⟨4, ![8, 1280, 1, 1]⟩
abbrev S8x1280x32x1280 : Shape := ⟨4, ![8, 1280, 32, 1280]⟩
abbrev S8x1x1x1280 : Shape := ⟨4, ![8, 1, 1, 1280]⟩
abbrev S1280 : Shape := ⟨1, ![1280]⟩
abbrev S1x1280 : Shape := ⟨2, ![1, 1280]⟩
abbrev S1280x1 : Shape := ⟨2, ![1280, 1]⟩
abbrev S1280x1280 : Shape := ⟨2, ![1280, 1280]⟩
abbrev S1x1280x1x1280 : Shape := ⟨4, ![1, 1280, 1, 1280]⟩
abbrev S8x1280x512 : Shape := ⟨3, ![8, 1280, 512]⟩
abbrev S8x1280x1x1280 : Shape := ⟨4, ![8, 1280, 1, 1280]⟩
abbrev S8x40960x576 : Shape := ⟨3, ![8, 40960, 576]⟩
abbrev S8x1280x64 : Shape := ⟨3, ![8, 1280, 64]⟩

abbrev nBuf : Space → Nat
  | .hbm => 83
  | .vmem => 6
  | .smem => 0
  | _ => 0

abbrev bufTy : (tb : Table) → Fin (tcTables nBuf tb) → BufTy
  | .hbm, ⟨0, _⟩ => ⟨S8x1280x32x576, .fp8e4m3⟩
  | .hbm, ⟨1, _⟩ => ⟨S8x1280x32, .f32⟩
  | .hbm, ⟨2, _⟩ => ⟨S8x1280x576, .fp8e4m3⟩
  | .hbm, ⟨3, _⟩ => ⟨S8x1280, .f32⟩
  | .hbm, ⟨4, _⟩ => ⟨S8x1280x32x512, .bf16⟩
  | .hbm, ⟨5, _⟩ => ⟨S8x1280x32, .f32⟩
  | .hbm, ⟨6, _⟩ => ⟨S8x1280x32x512, .fp8e5m2⟩
  | .hbm, ⟨7, _⟩ => ⟨S8x1280, .f32⟩
  | .hbm, ⟨8, _⟩ => ⟨S_, .f32⟩
  | .hbm, ⟨9, _⟩ => ⟨S_, .f32⟩
  | .hbm, ⟨10, _⟩ => ⟨S8x1280x32x576, .bf16⟩
  | .hbm, ⟨11, _⟩ => ⟨S8x1280x576, .bf16⟩
  | .hbm, ⟨12, _⟩ => ⟨S8x1280x32x512, .bf16⟩
  | .hbm, ⟨13, _⟩ => ⟨S8x1280, .bf16⟩
  | .hbm, ⟨14, _⟩ => ⟨S8x1280x1, .bf16⟩
  | .hbm, ⟨15, _⟩ => ⟨S8x1280x576, .bf16⟩
  | .hbm, ⟨16, _⟩ => ⟨S8x1280x576, .bf16⟩
  | .hbm, ⟨17, _⟩ => ⟨S8x1280x32, .bf16⟩
  | .hbm, ⟨18, _⟩ => ⟨S8x1280x32x1, .bf16⟩
  | .hbm, ⟨19, _⟩ => ⟨S8x1280x32x576, .bf16⟩
  | .hbm, ⟨20, _⟩ => ⟨S8x1280x32x576, .bf16⟩
  | .hbm, ⟨21, _⟩ => ⟨S8x1280, .bf16⟩
  | .hbm, ⟨22, _⟩ => ⟨S8x1280x1x1, .bf16⟩
  | .hbm, ⟨23, _⟩ => ⟨S8x1280x32x512, .bf16⟩
  | .hbm, ⟨24, _⟩ => ⟨S8x1280x32x512, .bf16⟩
  | .hbm, ⟨25, _⟩ => ⟨S8x1280x32x512, .f32⟩
  | .hbm, ⟨26, _⟩ => ⟨S8x1280x1x1, .f32⟩
  | .hbm, ⟨27, _⟩ => ⟨S8x1280x32x512, .f32⟩
  | .hbm, ⟨28, _⟩ => ⟨S8x1280x32x512, .f32⟩
  | .hbm, ⟨29, _⟩ => ⟨S8x1280x32x512, .f32⟩
  | .hbm, ⟨30, _⟩ => ⟨S8x1280x32x512, .f32⟩
  | .hbm, ⟨31, _⟩ => ⟨S_, .f32⟩
  | .hbm, ⟨32, _⟩ => ⟨S8x1280x32, .f32⟩
  | .hbm, ⟨33, _⟩ => ⟨S8x1280x32x1280, .f32⟩
  | .hbm, ⟨34, _⟩ => ⟨S8x1280x32x1, .f32⟩
  | .hbm, ⟨35, _⟩ => ⟨S8x1x1x1280, .f32⟩
  | .hbm, ⟨36, _⟩ => ⟨S8x1280x32x1280, .f32⟩
  | .hbm, ⟨37, _⟩ => ⟨S8x1280x32x1280, .f32⟩
  | .hbm, ⟨38, _⟩ => ⟨S8x1280x32x1280, .f32⟩
  | .hbm, ⟨39, _⟩ => ⟨S8x1280x32x1280, .f32⟩
  | .hbm, ⟨40, _⟩ => ⟨S8x1280x32x1280, .f32⟩
  | .hbm, ⟨41, _⟩ => ⟨S8x1280x32x1280, .f32⟩
  | .hbm, ⟨42, _⟩ => ⟨S1280, .i32⟩
  | .hbm, ⟨43, _⟩ => ⟨S1x1280, .i32⟩
  | .hbm, ⟨44, _⟩ => ⟨S1280x1, .i32⟩
  | .hbm, ⟨45, _⟩ => ⟨S1280x1280, .i32⟩
  | .hbm, ⟨46, _⟩ => ⟨S1280x1280, .i32⟩
  | .hbm, ⟨47, _⟩ => ⟨S1280x1280, .i1⟩
  | .hbm, ⟨48, _⟩ => ⟨S1x1280x1x1280, .i1⟩
  | .hbm, ⟨49, _⟩ => ⟨S8x1280x32x1, .f32⟩
  | .hbm, ⟨50, _⟩ => ⟨S8x1280x32x1280, .f32⟩
  | .hbm, ⟨51, _⟩ => ⟨S8x1280x32x1280, .f32⟩
  | .hbm, ⟨52, _⟩ => ⟨S8x1280x32x1280, .f32⟩
  | .hbm, ⟨53, _⟩ => ⟨S_, .f32⟩
  | .hbm, ⟨54, _⟩ => ⟨S_, .f32⟩
  | .hbm, ⟨55, _⟩ => ⟨S8x1280x32x1280, .i1⟩
  | .hbm, ⟨56, _⟩ => ⟨S8x1280x32x1280, .f32⟩
  | .hbm, ⟨57, _⟩ => ⟨S8x1280x32x1280, .f32⟩
  | .hbm, ⟨58, _⟩ => ⟨S8x1280x512, .bf16⟩
  | .hbm, ⟨59, _⟩ => ⟨S8x1280x32x1280, .f32⟩
  | .hbm, ⟨60, _⟩ => ⟨S8x1280x1x1, .f32⟩
  | .hbm, ⟨61, _⟩ => ⟨S8x1x1x1280, .f32⟩
  | .hbm, ⟨62, _⟩ => ⟨S8x1280x1x1280, .f32⟩
  | .hbm, ⟨63, _⟩ => ⟨S8x1280x1x1280, .f32⟩
  | .hbm, ⟨64, _⟩ => ⟨S8x1280x1x1280, .f32⟩
  | .hbm, ⟨65, _⟩ => ⟨S8x1280x32x1280, .f32⟩
  | .hbm, ⟨66, _⟩ => ⟨S8x1280x32x1280, .f32⟩
  | .hbm, ⟨67, _⟩ => ⟨S8x1280x32x1, .f32⟩
  | .hbm, ⟨68, _⟩ => ⟨S8x1280x32x1280, .f32⟩
  | .hbm, ⟨69, _⟩ => ⟨S8x1280x32x1280, .f32⟩
  | .hbm, ⟨70, _⟩ => ⟨S8x1280x32x1280, .f32⟩
  | .hbm, ⟨71, _⟩ => ⟨S8x1280x32x1280, .f32⟩
  | .hbm, ⟨72, _⟩ => ⟨S8x1280x32x1280, .f32⟩
  | .hbm, ⟨73, _⟩ => ⟨S8x1280x32x1280, .bf16⟩
  | .hbm, ⟨74, _⟩ => ⟨S8x1280x32x576, .f32⟩
  | .hbm, ⟨75, _⟩ => ⟨S8x1280x576, .f32⟩
  | .hbm, ⟨76, _⟩ => ⟨S8x1280x32x1280, .bf16⟩
  | .hbm, ⟨77, _⟩ => ⟨S8x1280x512, .f32⟩
  | .hbm, ⟨78, _⟩ => ⟨S8x1280x32x576, .bf16⟩
  | .hbm, ⟨79, _⟩ => ⟨S8x40960x576, .bf16⟩
  | .hbm, ⟨80, _⟩ => ⟨S8x1280x512, .f32⟩
  | .hbm, ⟨81, _⟩ => ⟨S8x1280x512, .f32⟩
  | .hbm, ⟨82, _⟩ => ⟨S8x1280x64, .f32⟩
  | .local _ .vmem, ⟨0, _⟩ => ⟨S8x1280x32x576, .fp8e4m3⟩
  | .local _ .vmem, ⟨1, _⟩ => ⟨S8x1280x576, .fp8e4m3⟩
  | .local _ .vmem, ⟨2, _⟩ => ⟨S8x1280x32x512, .fp8e5m2⟩
  | .local _ .vmem, ⟨3, _⟩ => ⟨S8x1280x32x576, .bf16⟩
  | .local _ .vmem, ⟨4, _⟩ => ⟨S8x1280x576, .bf16⟩
  | .local _ .vmem, ⟨5, _⟩ => ⟨S8x1280x32x512, .bf16⟩
  | _, _ => ⟨S8x1280x32x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1280x32x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280x576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1280x32x512 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1280x32x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1280x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1280x32x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.Runs.lean ====
/- What the runs of the kernel body share. (After the generated frame certificate.) -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 80) — by arithmetic of the point. -/
theorem hcond0_0 : ∀ t : Fin cfg0.N, cond0_0 (grid0.coords t) ↔ t.val % 80 = 0 :=
  (fun t => by
    have ht : t.val < 640 := Nat.lt_of_lt_of_eq t.isLt N_0
    have e0 : (grid0.coords t 0).val = t.val / 80 % 8 := Pipeline.Grid.coords_val t 0 (by decide) rfl
    have e1 : (grid0.coords t 1).val = t.val / 1 % 80 := Pipeline.Grid.coords_val t 1 (by decide) rfl
    simp only [cond0_0, k0_cond1, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 15 — decided over the grid. -/
theorem hcond0_1 : ∀ t : Fin cfg0.N, cond0_1 (grid0.coords t) ↔ t.val % 80 ≤ 15 :=
  (by decide +kernel : ∀ t : Fin grid0.N, cond0_1 (grid0.coords t) ↔ t.val % 80 ≤ 15)

/-- The condition of the body's `scf.if` 2 (`k0_h3`), from the grid coordinates (the skeleton's scalar
    chain substituted). -/
abbrev cond0_2 (i : grid0.Coords) : Prop := k0_cond3 i = 1#1
/-- It holds at the points whose coordinates have 16 ≤ i1 and i1 ≤ 31 — decided over the grid. -/
theorem hcond0_2 : ∀ t : Fin cfg0.N, cond0_2 (grid0.coords t) ↔ (16 ≤ t.val % 80 ∧ t.val % 80 ≤ 31) :=
  (by decide +kernel : ∀ t : Fin grid0.N, cond0_2 (grid0.coords t) ↔ (16 ≤ t.val % 80 ∧ t.val % 80 ≤ 31))

/-- The condition of the body's `scf.if` 3 (`k0_h4`), from the grid coordinates (the skeleton's scalar
    chain substituted). -/
abbrev cond0_3 (i : grid0.Coords) : Prop := k0_cond4 i = 1#1
/-- It holds at the points whose coordinates have 32 ≤ i1 and i1 ≤ 47 — decided over the grid. -/
theorem hcond0_3 : ∀ t : Fin cfg0.N, cond0_3 (grid0.coords t) ↔ (32 ≤ t.val % 80 ∧ t.val % 80 ≤ 47) :=
  (by decide +kernel : ∀ t : Fin grid0.N, cond0_3 (grid0.coords t) ↔ (32 ≤ t.val % 80 ∧ t.val % 80 ≤ 47))

/-- The condition of the body's `scf.if` 4 (`k0_h5`), from the grid coordinates (the skeleton's scalar
    chain substituted). -/
abbrev cond0_4 (i : grid0.Coords) : Prop := k0_cond5 i = 1#1
/-- It holds at the points whose coordinates have 48 ≤ i1 and i1 ≤ 63 — decided over the grid. -/
theorem hcond0_4 : ∀ t : Fin cfg0.N, cond0_4 (grid0.coords t) ↔ (48 ≤ t.val % 80 ∧ t.val % 80 ≤ 63) :=
  (by decide +kernel : ∀ t : Fin grid0.N, cond0_4 (grid0.coords t) ↔ (48 ≤ t.val % 80 ∧ t.val % 80 ≤ 63))

/-- The condition of the body's `scf.if` 5 (`k0_h6`), from the grid coordinates (the skeleton's scalar
    chain substituted). -/
abbrev cond0_5 (i : grid0.Coords) : Prop := k0_cond6 i = 1#1
/-- It holds at the points whose coordinates have 64 ≤ i1 — decided over the grid. -/
theorem hcond0_5 : ∀ t : Fin cfg0.N, cond0_5 (grid0.coords t) ↔ 64 ≤ t.val % 80 :=
  (by decide +kernel : ∀ t : Fin grid0.N, cond0_5 (grid0.coords t) ↔ 64 ≤ t.val % 80)

/-- The condition of the body's `scf.if` 6 (`k0_h7`), from the grid coordinates (the skeleton's scalar
    chain substituted). -/
abbrev cond0_6 (i : grid0.Coords) : Prop := k0_cond7 i = 1#1
/-- It holds at the points ≡ 79 (mod 80) — by arithmetic of the point. -/
theorem hcond0_6 : ∀ t : Fin cfg0.N, cond0_6 (grid0.coords t) ↔ t.val % 80 = 79 :=
  (fun t => by
    have ht : t.val < 640 := Nat.lt_of_lt_of_eq t.isLt N_0
    have e0 : (grid0.coords t 0).val = t.val / 80 % 8 := Pipeline.Grid.coords_val t 0 (by decide) rfl
    have e1 : (grid0.coords t 1).val = t.val / 1 % 80 := Pipeline.Grid.coords_val t 1 (by decide) rfl
    simp only [cond0_6, k0_cond7, e0, e1]
    word_cmp
   : ∀ t : Fin grid0.N, cond0_6 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x576 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x576 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1280x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x64 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S576x1280 .bf16 := Memref.whole cc0_scratch0
abbrev scM0_1 : Memref sig .tc .vmem S1280x128 .f32 := Memref.whole cc0_scratch1
abbrev scM0_2 : Memref sig .tc .vmem S1280x512 .bf16 := Memref.whole cc0_scratch2
abbrev scM0_3 : Memref sig .tc .vmem S1280x512 .bf16 := Memref.whole cc0_scratch3
abbrev scM0_4 : Memref sig .tc .vmem S1280x512 .bf16 := Memref.whole cc0_scratch4
abbrev scM0_5 : Memref sig .tc .vmem S64x1280 .f32 := Memref.whole cc0_scratch5
/-- The scratch `arg14` the kernel carries between points, as a view: what it holds is stated through it. -/
abbrev VS0_1 : View sig .tc .vmem S1280x128 .f32 := scM0_1.view
/-- The scratch `arg18` the kernel carries between points, as a view: what it holds is stated through it. -/
abbrev VS0_5 : View sig .tc .vmem S64x1280 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KernelFrame.RunA.lean ====
/- The run of the kernel body, case A of its conditions. (After the generated frame certificate.) -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1536000 in
/-- What the body's stores leave in each output's staging memref, as pieces (last first) IN CASE A (`scf.if` 0 taken, `scf.if` 1 taken, `scf.if` 2 not taken, `scf.if` 3 not taken, `scf.if` 4 not taken, `scf.if` 5 not taken, `scf.if` 6 not taken: points 0, 80, … 560: 8 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS1) ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (∃ f, arg18.view.loc (c : Thread nD τ) ↦[arg18.view.set]{fullShare} arg18.view.writes (Elt F) f LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_bwd_eq_skeleton]; unfold cc0_mla_bwd_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part37_eq_skeleton, k0_part38_eq_skeleton, k0_part12_eq_skeleton, k0_part10_eq_skeleton, k0_part11_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexists _; iexact HS5

end Cert.Kernel.Gen

end
-- ==== Proof.KernelFrame.RunB.lean ====
/- The run of the kernel body, case B of its conditions. (After the generated frame certificate.) -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken, `scf.if` 4 not taken, `scf.if` 5 not taken, `scf.if` 6 not taken: points 1, 2, … 575: 120 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part12_eq_skeleton, k0_part10_eq_skeleton, k0_part11_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexact HS5

end Cert.Kernel.Gen

end
-- ==== Proof.KernelFrame.RunC.lean ====
/- The run of the kernel body, case C of its conditions. (After the generated frame certificate.) -/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 not taken, `scf.if` 5 not taken, `scf.if` 6 not taken: points 16, 17, … 591: 128 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_C (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part16_eq_skeleton, k0_part13_eq_skeleton, k0_part14_eq_skeleton, k0_part15_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexact HS5

end Cert.Kernel.Gen

end
-- ==== Proof.KernelFrame.RunD.lean ====
/- The run of the kernel body, case D of its conditions. (After the generated frame certificate.) -/
module

public import proofs.«01_k».proof.Proof.KernelFrame.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken, `scf.if` 4 not taken, `scf.if` 5 not taken, `scf.if` 6 not taken: points 32, 33, … 607: 128 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_D (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part39_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexact HS5

end Cert.Kernel.Gen

end
-- ==== Proof.KernelFrame.RunE.lean ====
/- The run of the kernel body, case E of its conditions. (After the generated frame certificate.) -/
module

public import proofs.«01_k».proof.Proof.KernelFrame.RunD

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 not taken, `scf.if` 3 not taken, `scf.if` 4 taken, `scf.if` 5 not taken, `scf.if` 6 not taken: points 48, 49, … 623: 128 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_E (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part39_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexact HS5

end Cert.Kernel.Gen

end
-- ==== Proof.KernelFrame.RunF.lean ====
/- The run of the kernel body, case F of its conditions. (After the generated frame certificate.) -/
module

public import proofs.«01_k».proof.Proof.KernelFrame.RunE

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 1 not taken, `scf.if` 2 not taken, `scf.if` 3 not taken, `scf.if` 4 not taken, `scf.if` 5 taken, `scf.if` 6 not taken: points 64, 65, … 638: 120 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_F (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (∃ f, arg18.view.loc (c : Thread nD τ) ↦[arg18.view.set]{fullShare} arg18.view.writes (Elt F) f LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part39_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexists _; iexact HS5

end Cert.Kernel.Gen

end
-- ==== Proof.KernelFrame.RunG.lean ====
/- The run of the kernel body, case G of its conditions. (After the generated frame certificate.) -/
module

public import proofs.«01_k».proof.Proof.KernelFrame.RunF

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1160000 in
/-- What the body's stores leave in each output's staging memref, as pieces (last first) IN CASE G (`scf.if` 0 not taken, `scf.if` 1 not taken, `scf.if` 2 not taken, `scf.if` 3 not taken, `scf.if` 4 not taken, `scf.if` 5 taken, `scf.if` 6 taken: points 79, 159, … 639: 8 of 640), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_G (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) :
    Σ' (LS1 : List (View.Piece (Elt F) S1280x128 .f32)), Σ' (LS5 : List (View.Piece (Elt F) S64x1280 .f32)), { LT3 : List (View.Piece (Elt F) S1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ (∃ d, owns (c : Thread nD τ) arg15 fullShare d) ∗ (∃ f, arg16.view.loc (c : Thread nD τ) ↦[arg16.view.set]{fullShare} arg16.view.writes (Elt F) f LT3) ∗ (∃ d, owns (c : Thread nD τ) arg17 fullShare d) ∗ (∃ f, arg18.view.loc (c : Thread nD τ) ↦[arg18.view.set]{fullShare} arg18.view.writes (Elt F) f LS5)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, fun E K => ?run⟩
  case run =>
    simp only [cc0_mla_bwd_eq_skeleton]; unfold cc0_mla_bwd_skel
    simp only [k0_part36_eq_skeleton, k0_part37_eq_skeleton, k0_part38_eq_skeleton, k0_part39_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs1; obtain rfl := harg18.eq_unread hfs5
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    iexists _; iexact HS5

end Cert.Kernel.Gen

end
-- ==== Proof.KernelFrame.Frame.lean ====
/- The kernel runs to the end with its arguments unchanged: the proof data, the body obligation and the launch. (After the generated frame certificate.) -/
module

public import proofs.«01_k».proof.Proof.KernelFrame.RunG
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 1 piece of `S1280x128` tiling it (Lib/Ring.lean `Piece.tiledL`). -/
theorem scover0_A_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (y : S1280x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).1 S1280x128.size (by sl_kernel_rfl) y

/-- What case A leaves in scratch `arg14`: its pieces read back over junk. -/
def sout0_A_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) : Vec F S1280x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).1)

/-- Case A's pieces for scratch `arg18`, which the kernel carries between points, cover it: one of them a store of the WHOLE buffer (Lib/Ring.lean `sl_whole_mem`). -/
theorem scover0_A_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (y : S64x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).2.1 (by sl_whole_mem) y

/-- What case A leaves in scratch `arg18`: its pieces read back over junk. -/
def sout0_A_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) : Vec F S64x1280 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7).2.1)

/-- Case B stores nothing into scratch `arg14`: it holds what the point before left. -/
def sout0_B_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- What case B leaves in scratch `arg18`: its pieces (stores, a counted loop's segment) read back over what the point before left there, which it read first. -/
def sout0_B_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : cond0_1 i) (hc2 : ¬cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  arg18.view.read (Elt F) (arg18.view.writes (Elt F) (harg18.unread xs5) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-- Case C stores nothing into scratch `arg14`: it holds what the point before left. -/
def sout0_C_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- What case C leaves in scratch `arg18`: its pieces (stores, a counted loop's segment) read back over what the point before left there, which it read first. -/
def sout0_C_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  arg18.view.read (Elt F) (arg18.view.writes (Elt F) (harg18.unread xs5) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-- Case D stores nothing into scratch `arg14`: it holds what the point before left. -/
def sout0_D_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- What case D leaves in scratch `arg18`: its pieces (stores, a counted loop's segment) read back over what the point before left there, which it read first. -/
def sout0_D_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  arg18.view.read (Elt F) (arg18.view.writes (Elt F) (harg18.unread xs5) (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-- Case E stores nothing into scratch `arg14`: it holds what the point before left. -/
def sout0_E_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- What case E leaves in scratch `arg18`: its pieces (stores, a counted loop's segment) read back over what the point before left there, which it read first. -/
def sout0_E_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  arg18.view.read (Elt F) (arg18.view.writes (Elt F) (harg18.unread xs5) (kernelRun0_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-- Case F stores nothing into scratch `arg14`: it holds what the point before left. -/
def sout0_F_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- Case F's pieces for scratch `arg18`, which the kernel carries between points, cover it: 1 piece of `S64x1280` tiling it (Lib/Ring.lean `Piece.tiledL`). -/
theorem scover0_F_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) (y : S64x1280.Idx) :
    ∃ pc ∈ (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1, y ∈ pc.1.set :=
  View.cover_of_tiledL (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1 S64x1280.size (by sl_kernel_rfl) y

/-- What case F leaves in scratch `arg18`: its pieces read back over junk. -/
def sout0_F_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  VS0_5.read (Elt F) (VS0_5.writes (Elt F) VS0_5.junk (kernelRun0_F c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-- Case G stores nothing into scratch `arg14`: it holds what the point before left. -/
def sout0_G_1 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S1280x128 .f32 := xs1

/-- Case G's pieces for scratch `arg18`, which the kernel carries between points, cover it: 1 piece of `S64x1280` tiling it (Lib/Ring.lean `Piece.tiledL`). -/
theorem scover0_G_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) (y : S64x1280.Idx) :
    ∃ pc ∈ (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1, y ∈ pc.1.set :=
  View.cover_of_tiledL (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1 S64x1280.size (by sl_kernel_rfl) y

/-- What case G leaves in scratch `arg18`: its pieces read back over junk. -/
def sout0_G_5 (c : Dev nD) (i : grid0.Coords) (arg2 : Memref sig .tc .vmem S1x512x576 .fp8e4m3) (harg2 : arg2.IsWhole) (arg3 : Memref sig .tc .vmem S1x1280x576 .fp8e4m3) (harg3 : arg3.IsWhole) (arg4 : Memref sig .tc .vmem S1x512x512 .bf16) (harg4 : arg4.IsWhole) (arg5 : Memref sig .tc .vmem S1x512x512 .fp8e5m2) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S1x1x1280 .f32) (harg9 : arg9.IsWhole) (arg10 : Memref sig .tc .vmem S1x512x576 .bf16) (harg10 : arg10.IsWhole) (arg11 : Memref sig .tc .vmem S1x1280x512 .f32) (harg11 : arg11.IsWhole) (arg12 : Memref sig .tc .vmem S1x1280x64 .f32) (harg12 : arg12.IsWhole) (arg13 : Memref sig .tc .vmem S576x1280 .bf16) (harg13 : arg13.IsWhole) (arg14 : Memref sig .tc .vmem S1280x128 .f32) (harg14 : arg14.IsWhole) (arg15 : Memref sig .tc .vmem S1280x512 .bf16) (harg15 : arg15.IsWhole) (arg16 : Memref sig .tc .vmem S1280x512 .bf16) (harg16 : arg16.IsWhole) (arg17 : Memref sig .tc .vmem S1280x512 .bf16) (harg17 : arg17.IsWhole) (arg18 : Memref sig .tc .vmem S64x1280 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S1x512x576 .fp8e4m3) (x1 : Vec F S1x1280x576 .fp8e4m3) (x2 : Vec F S1x512x512 .bf16) (x3 : Vec F S1x512x512 .fp8e5m2) (x4 : Vec F S1x1x1x512 .f32) (x5 : Vec F S1x1x1x512 .f32) (x6 : Vec F S1x1x1x512 .f32) (x7 : Vec F S1x1x1280 .f32) (xs1 : Vec F S1280x128 .f32) (xs5 : Vec F S64x1280 .f32) : Vec F S64x1280 .f32 :=
  VS0_5.read (Elt F) (VS0_5.writes (Elt F) VS0_5.junk (kernelRun0_G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 xs1 xs5).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x128 .f32 × Vec F S64x1280 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 80 = 0 then
      if h1 : (n + 1) % 80 ≤ 15 then
        if h2 : (16 ≤ (n + 1) % 80 ∧ (n + 1) % 80 ≤ 31) then
          False.elim (by have hN : n + 1 < 640 := lt_of_lt_of_eq hn (show cfg0.N = 640 from N_0); omega)
        else
          if h3 : (32 ≤ (n + 1) % 80 ∧ (n + 1) % 80 ≤ 47) then
            False.elim (by have hN : n + 1 < 640 := lt_of_lt_of_eq hn (show cfg0.N = 640 from N_0); omega)
          else
            if h4 : (48 ≤ (n + 1) % 80 ∧ (n + 1) % 80 ≤ 63) then
              False.elim (by have hN : n + 1 < 640 := lt_of_lt_of_eq hn (show cfg0.N = 640 from N_0); omega)
            else
              if h5 : 64 ≤ (n + 1) % 80 then
                False.elim (by have hN : n + 1 < 640 := lt_of_lt_of_eq hn (show cfg0.N = 640 from N_0); omega)
              else
                if h6 : (n + 1) % 80 = 79 then
                  False.elim (by have hN : n + 1 < 640 := lt_of_lt_of_eq hn (show cfg0.N = 640 from N_0); omega)
                else
                  (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 640 := lt_of_lt_of_eq hn (show cfg0.N = 640 from N_0); omega)
    else
      if h1 : (n + 1) % 80 ≤ 15 then
        if h2 : (16 ≤ (n + 1) % 80 ∧ (n + 1) % 80 ≤ 31) then
          False.elim (by have hN : n + 1 < 640 := lt_of_lt_of_eq hn (show cfg0.N = 640 from N_0); omega)
        else
          if h3 : (32 ≤ (n + 1) % 80 ∧ (n + 1) % 80 ≤ 47) then
            False.elim (by have hN : n + 1 < 640 := lt_of_lt_of_eq hn (show cfg0.N = 640 from N_0); omega)
          else
            if h4 : (48 ≤ (n + 1) % 80 ∧ (n + 1) % 80 ≤ 63) then
              False.elim (by have hN : n + 1 < 640 := lt_of_lt_of_eq hn (show cfg0.N = 640 from N_0); omega)
            else
              if h5 : 64 ≤ (n + 1) % 80 then
                False.elim (by have hN : n + 1 < 640 := lt_of_lt_of_eq hn (show cfg0.N = 640 from N_0); omega)
              else
                if h6 : (n + 1) % 80 = 79 then
                  False.elim (by have hN : n + 1 < 640 := lt_of_lt_of_eq hn (show cfg0.N = 640 from N_0); omega)
                else
                  (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
      else
        if h2 : (16 ≤ (n + 1) % 80 ∧ (n + 1) % 80 ≤ 31) then
          if h3 : (32 ≤ (n + 1) % 80 ∧ (n + 1) % 80 ≤ 47) then
            False.elim (by have hN : n + 1 < 640 := lt_of_lt_of_eq hn (show cfg0.N = 640 from N_0); omega)
          else
            if h4 : (48 ≤ (n + 1) % 80 ∧ (n + 1) % 80 ≤ 63) then
              False.elim (by have hN : n + 1 < 640 := lt_of_lt_of_eq hn (show cfg0.N = 640 from N_0); omega)
            else
              if h5 : 64 ≤ (n + 1) % 80 then
                False.elim (by have hN : n + 1 < 640 := lt_of_lt_of_eq hn (show cfg0.N = 640 from N_0); omega)
              else
                if h6 : (n + 1) % 80 = 79 then
                  False.elim (by have hN : n + 1 < 640 := lt_of_lt_of_eq hn (show cfg0.N = 640 from N_0); omega)
                else
                  (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
        else
          if h3 : (32 ≤ (n + 1) % 80 ∧ (n + 1) % 80 ≤ 47) then
            if h4 : (48 ≤ (n + 1) % 80 ∧ (n + 1) % 80 ≤ 63) then
              False.elim (by have hN : n + 1 < 640 := lt_of_lt_of_eq hn (show cfg0.N = 640 from N_0); omega)
            else
              if h5 : 64 ≤ (n + 1) % 80 then
                False.elim (by have hN : n + 1 < 640 := lt_of_lt_of_eq hn (show cfg0.N = 640 from N_0); omega)
              else
                if h6 : (n + 1) % 80 = 79 then
                  False.elim (by have hN : n + 1 < 640 := lt_of_lt_of_eq hn (show cfg0.N = 640 from N_0); omega)
                else
                  (sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
          else
            if h4 : (48 ≤ (n + 1) % 80 ∧ (n + 1) % 80 ≤ 63) then
              if h5 : 64 ≤ (n + 1) % 80 then
                False.elim (by have hN : n + 1 < 640 := lt_of_lt_of_eq hn (show cfg0.N = 640 from N_0); omega)
              else
                if h6 : (n + 1) % 80 = 79 then
                  False.elim (by have hN : n + 1 < 640 := lt_of_lt_of_eq hn (show cfg0.N = 640 from N_0); omega)
                else
                  (sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
            else
              if h5 : 64 ≤ (n + 1) % 80 then
                if h6 : (n + 1) % 80 = 79 then
                  (sout0_G_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_G_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
                else
                  (sout0_F_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2, sout0_F_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)
              else
                False.elim (by have hN : n + 1 < 640 := lt_of_lt_of_eq hn (show cfg0.N = 640 from N_0); omega)

/-- `outsAt0` at a point of case A: that case's contents. -/
theorem outsAt0_A (c : Dev nD) (t : Fin cfg0.N) (h0 : t.val % 80 = 0) (h1 : t.val % 80 ≤ 15) (h2 : ¬(16 ≤ t.val % 80 ∧ t.val % 80 ≤ 31)) (h3 : ¬(32 ≤ t.val % 80 ∧ t.val % 80 ≤ 47)) (h4 : ¬(48 ≤ t.val % 80 ∧ t.val % 80 ≤ 63)) (h5 : ¬64 ≤ t.val % 80) (h6 : ¬t.val % 80 = 79) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans ((dif_neg h3).trans ((dif_neg h4).trans ((dif_neg h5).trans ((dif_neg h6).trans rfl))))))

/-- `outsAt0` at a point of case B: that case's contents, over what the point before left. -/
theorem outsAt0_B (c : Dev nD) (t : Fin cfg0.N) (h0 : ¬t.val % 80 = 0) (h1 : t.val % 80 ≤ 15) (h2 : ¬(16 ≤ t.val % 80 ∧ t.val % 80 ≤ 31)) (h3 : ¬(32 ≤ t.val % 80 ∧ t.val % 80 ≤ 47)) (h4 : ¬(48 ≤ t.val % 80 ∧ t.val % 80 ≤ 63)) (h5 : ¬64 ≤ t.val % 80) (h6 : ¬t.val % 80 = 79) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans ((dif_neg h5).trans ((dif_neg h6).trans rfl))))))

/-- `outsAt0` at a point of case C: that case's contents, over what the point before left. -/
theorem outsAt0_C (c : Dev nD) (t : Fin cfg0.N) (h0 : ¬t.val % 80 = 0) (h1 : ¬t.val % 80 ≤ 15) (h2 : (16 ≤ t.val % 80 ∧ t.val % 80 ≤ 31)) (h3 : ¬(32 ≤ t.val % 80 ∧ t.val % 80 ≤ 47)) (h4 : ¬(48 ≤ t.val % 80 ∧ t.val % 80 ≤ 63)) (h5 : ¬64 ≤ t.val % 80) (h6 : ¬t.val % 80 = 79) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans ((dif_neg h6).trans rfl))))))

/-- `outsAt0` at a point of case D: that case's contents, over what the point before left. -/
theorem outsAt0_D (c : Dev nD) (t : Fin cfg0.N) (h0 : ¬t.val % 80 = 0) (h1 : ¬t.val % 80 ≤ 15) (h2 : ¬(16 ≤ t.val % 80 ∧ t.val % 80 ≤ 31)) (h3 : (32 ≤ t.val % 80 ∧ t.val % 80 ≤ 47)) (h4 : ¬(48 ≤ t.val % 80 ∧ t.val % 80 ≤ 63)) (h5 : ¬64 ≤ t.val % 80) (h6 : ¬t.val % 80 = 79) :
    outsAt0 m c t.val t.isLt = (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans ((dif_neg h6).trans rfl))))))

/-- `outsAt0` at a point of case E: that case's contents, over what the point before left. -/
theorem outsAt0_E (c : Dev nD) (t : Fin cfg0.N) (h0 : ¬t.val % 80 = 0) (h1 : ¬t.val % 80 ≤ 15) (h2 : ¬(16 ≤ t.val % 80 ∧ t.val % 80 ≤ 31)) (h3 : ¬(32 ≤ t.val % 80 ∧ t.val % 80 ≤ 47)) (h4 : (48 ≤ t.val % 80 ∧ t.val % 80 ≤ 63)) (h5 : ¬64 ≤ t.val % 80) (h6 : ¬t.val % 80 = 79) :
    outsAt0 m c t.val t.isLt = (sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans ((dif_neg h6).trans rfl))))))

/-- `outsAt0` at a point of case F: that case's contents, over what the point before left. -/
theorem outsAt0_F (c : Dev nD) (t : Fin cfg0.N) (h0 : ¬t.val % 80 = 0) (h1 : ¬t.val % 80 ≤ 15) (h2 : ¬(16 ≤ t.val % 80 ∧ t.val % 80 ≤ 31)) (h3 : ¬(32 ≤ t.val % 80 ∧ t.val % 80 ≤ 47)) (h4 : ¬(48 ≤ t.val % 80 ∧ t.val % 80 ≤ 63)) (h5 : 64 ≤ t.val % 80) (h6 : ¬t.val % 80 = 79) :
    outsAt0 m c t.val t.isLt = (sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_F_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans ((dif_neg h6).trans rfl))))))

/-- `outsAt0` at a point of case G: that case's contents, over what the point before left. -/
theorem outsAt0_G (c : Dev nD) (t : Fin cfg0.N) (h0 : ¬t.val % 80 = 0) (h1 : ¬t.val % 80 ≤ 15) (h2 : ¬(16 ≤ t.val % 80 ∧ t.val % 80 ≤ 31)) (h3 : ¬(32 ≤ t.val % 80 ∧ t.val % 80 ≤ 47)) (h4 : ¬(48 ≤ t.val % 80 ∧ t.val % 80 ≤ 63)) (h5 : 64 ≤ t.val % 80) (h6 : t.val % 80 = 79) :
    outsAt0 m c t.val t.isLt = (sout0_G_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) ((hcond0_6 t).mpr h6) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2, sout0_G_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) ((hcond0_6 t).mpr h6) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans ((dif_pos h6).trans rfl))))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c (n - 1) (by omega)).2)) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 44800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 640 := lt_of_lt_of_eq t.isLt (show cfg0.N = 640 from N_0)
  by_cases h0 : t.val % 80 = 0
  · by_cases h1 : t.val % 80 ≤ 15
    · by_cases h2 : (16 ≤ t.val % 80 ∧ t.val % 80 ≤ 31)
      · exfalso; omega
      · by_cases h3 : (32 ≤ t.val % 80 ∧ t.val % 80 ≤ 47)
        · exfalso; omega
        · by_cases h4 : (48 ≤ t.val % 80 ∧ t.val % 80 ≤ 63)
          · exfalso; omega
          · by_cases h5 : 64 ≤ t.val % 80
            · exfalso; omega
            · by_cases h6 : t.val % 80 = 79
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · rw [PhiS_castSucc m c t, PhiS_zero m c _ _ hz, PhiA0_eq]
                  rw [outsAt0_A m c t h0 h1 h2 h3 h4 h5 h6]
                  unfold sout0_A_1 sout0_A_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t)).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, ⟨%es1, HS1⟩, HS2, ⟨%fT3, HS3⟩, HS4, ⟨%es5, HS5⟩⟩
                  isplitl [HS0 HS1 HS2 HS3 HS4 HS5 Hg]
                  · isplitl [HS0 HS1 HS2 HS3 HS4 HS5]
                    · isplitl [HS0]
                      · iexact HS0
                      isplitl [HS1]
                      · unfold owns; iexists _; isplitr
                        swap; · iexact HS1
                        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _)
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
                · rw [PhiS_castSucc m c t, PhiS_pos m c _ _ hz]
                  rw [outsAt0_A m c t h0 h1 h2 h3 h4 h5 h6]
                  unfold sout0_A_1 sout0_A_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t)).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexists _; iexact HS1
                  isplitl [HS2]; · iexact HS2
                  isplitl [HS3]; · iexact HS3
                  isplitl [HS4]; · iexact HS4
                  isplitl [HS5]; · iexists _; iexact HS5
                  iintro ⟨H0, H1, H2, H3, H4, H5, H6, H7, H8, H9, H10, HS0, ⟨%es1, HS1⟩, HS2, ⟨%fT3, HS3⟩, HS4, ⟨%es5, HS5⟩⟩
                  isplitl [HS0 HS1 HS2 HS3 HS4 HS5 Hg]
                  · isplitl [HS0 HS1 HS2 HS3 HS4 HS5]
                    · isplitl [HS0]
                      · iexact HS0
                      isplitl [HS1]
                      · unfold owns; iexists _; isplitr
                        swap; · iexact HS1
                        ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _)
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
    · exfalso; omega
  · by_cases h1 : t.val % 80 ≤ 15
    · by_cases h2 : (16 ≤ t.val % 80 ∧ t.val % 80 ≤ 31)
      · exfalso; omega
      · by_cases h3 : (32 ≤ t.val % 80 ∧ t.val % 80 ≤ 47)
        · exfalso; omega
        · by_cases h4 : (48 ≤ t.val % 80 ∧ t.val % 80 ≤ 63)
          · exfalso; omega
          · by_cases h5 : 64 ≤ t.val % 80
            · exfalso; omega
            · by_cases h6 : t.val % 80 = 79
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_B m c t h0 h1 h2 h3 h4 h5 h6]
                  unfold sout0_B_1 sout0_B_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, HS5⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; rfl
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
    · by_cases h2 : (16 ≤ t.val % 80 ∧ t.val % 80 ≤ 31)
      · by_cases h3 : (32 ≤ t.val % 80 ∧ t.val % 80 ≤ 47)
        · exfalso; omega
        · by_cases h4 : (48 ≤ t.val % 80 ∧ t.val % 80 ≤ 63)
          · exfalso; omega
          · by_cases h5 : 64 ≤ t.val % 80
            · exfalso; omega
            · by_cases h6 : t.val % 80 = 79
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_C m c t h0 h1 h2 h3 h4 h5 h6]
                  unfold sout0_C_1 sout0_C_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, HS5⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; rfl
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
      · by_cases h3 : (32 ≤ t.val % 80 ∧ t.val % 80 ≤ 47)
        · by_cases h4 : (48 ≤ t.val % 80 ∧ t.val % 80 ≤ 63)
          · exfalso; omega
          · by_cases h5 : 64 ≤ t.val % 80
            · exfalso; omega
            · by_cases h6 : t.val % 80 = 79
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_D m c t h0 h1 h2 h3 h4 h5 h6]
                  unfold sout0_D_1 sout0_D_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_D c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, HS5⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; rfl
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
        · by_cases h4 : (48 ≤ t.val % 80 ∧ t.val % 80 ≤ 63)
          · by_cases h5 : 64 ≤ t.val % 80
            · exfalso; omega
            · by_cases h6 : t.val % 80 = 79
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_E m c t h0 h1 h2 h3 h4 h5 h6]
                  unfold sout0_E_1 sout0_E_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_E c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, HS5⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; rfl
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
          · by_cases h5 : 64 ≤ t.val % 80
            · by_cases h6 : t.val % 80 = 79
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_G m c t h0 h1 h2 h3 h4 h5 h6]
                  unfold sout0_G_1 sout0_G_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_G c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) ((hcond0_6 t).mpr h6) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, ⟨%es5, HS5⟩⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; exact View.read_writes_of_cover _ _ _ _ _ (scover0_G_5 c _ _ _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                by_cases hz : t.val = 0
                · exfalso; have hN : t.val < 640 := lt_of_lt_of_eq t.isLt (show cfg0.N = 640 from N_0); omega
                · rw [PhiS_castSucc m c t, PhiS_pos m c _ _ hz]
                  rw [outsAt0_F m c t h0 h1 h2 h3 h4 h5 h6]
                  unfold sout0_F_1 sout0_F_5; (try dsimp only)
                  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
                  iapply ((kernelRun0_F c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) _ _).2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexists _; iexact H8
                  isplitl [H9]; · iexists _; iexact H9
                  isplitl [H10]; · iexists _; iexact H10
                  isplitl [HS0]; · iexact HS0
                  isplitl [HS1]; · iexact HS1
                  isplitl [HS2]; · iexact HS2
                  isplitl [HS3]; · iexact HS3
                  isplitl [HS4]; · iexact HS4
                  isplitl [HS5]; · iexact HS5
                  iintro ⟨H0, H1, H2, H3, H4, H5, H6, H7, H8, H9, H10, HS0, HS1, HS2, ⟨%fT3, HS3⟩, HS4, ⟨%es5, HS5⟩⟩
                  isplitl [HS0 HS1 HS2 HS3 HS4 HS5 Hg]
                  · isplitl [HS0 HS1 HS2 HS3 HS4 HS5]
                    · isplitl [HS0]
                      · iexact HS0
                      isplitl [HS1]
                      · iexact HS1
                      isplitl [HS2]
                      · iexact HS2
                      isplitl [HS3]
                      · iexists _; unfold owns; iexists _; isplitr
                        swap; · iexact HS3
                        ipureintro; rfl
                      isplitl [HS4]
                      · iexact HS4
                      unfold owns; iexists _; isplitr
                      swap; · iexact HS5
                      ipureintro; exact View.read_writes_of_cover _ _ _ _ _ (scover0_F_5 c _ _ _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  iexact H10
            · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexists _; iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 640 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Run.Base.lean ====
/- What the runs of the kernel's body are stated over: the branch conditions over the grid points, the staging and
   scratch buffers, and the triple of the body (`RunSpec`) with the pieces each buffer is left with. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 80) — by arithmetic of the point. -/
theorem hcond0_0 : ∀ t : Fin cfg0.N, cond0_0 (grid0.coords t) ↔ t.val % 80 = 0 :=
  (fun t => by
    have ht : t.val < 640 := Nat.lt_of_lt_of_eq t.isLt N_0
    have e0 : (grid0.coords t 0).val = t.val / 80 % 8 := Pipeline.Grid.coords_val t 0 (by decide) rfl
    have e1 : (grid0.coords t 1).val = t.val / 1 % 80 := Pipeline.Grid.coords_val t 1 (by decide) rfl
    simp only [cond0_0, k0_cond1, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 15 — decided over the grid. -/
theorem hcond0_1 : ∀ t : Fin cfg0.N, cond0_1 (grid0.coords t) ↔ t.val % 80 ≤ 15 :=
  (by decide +kernel : ∀ t : Fin grid0.N, cond0_1 (grid0.coords t) ↔ t.val % 80 ≤ 15)

/-- The condition of the body's `scf.if` 2 (`k0_h3`), from the grid coordinates (the skeleton's scalar
    chain substituted). -/
abbrev cond0_2 (i : grid0.Coords) : Prop := k0_cond3 i = 1#1
/-- It holds at the points whose coordinates have 16 ≤ i1 and i1 ≤ 31 — decided over the grid. -/
theorem hcond0_2 : ∀ t : Fin cfg0.N, cond0_2 (grid0.coords t) ↔ (16 ≤ t.val % 80 ∧ t.val % 80 ≤ 31) :=
  (by decide +kernel : ∀ t : Fin grid0.N, cond0_2 (grid0.coords t) ↔ (16 ≤ t.val % 80 ∧ t.val % 80 ≤ 31))

/-- The condition of the body's `scf.if` 3 (`k0_h4`), from the grid coordinates (the skeleton's scalar
    chain substituted). -/
abbrev cond0_3 (i : grid0.Coords) : Prop := k0_cond4 i = 1#1
/-- It holds at the points whose coordinates have 32 ≤ i1 and i1 ≤ 47 — decided over the grid. -/
theorem hcond0_3 : ∀ t : Fin cfg0.N, cond0_3 (grid0.coords t) ↔ (32 ≤ t.val % 80 ∧ t.val % 80 ≤ 47) :=
  (by decide +kernel : ∀ t : Fin grid0.N, cond0_3 (grid0.coords t) ↔ (32 ≤ t.val % 80 ∧ t.val % 80 ≤ 47))

/-- The condition of the body's `scf.if` 4 (`k0_h5`), from the grid coordinates (the skeleton's scalar
    chain substituted). -/
abbrev cond0_4 (i : grid0.Coords) : Prop := k0_cond5 i = 1#1
/-- It holds at the points whose coordinates have 48 ≤ i1 and i1 ≤ 63 — decided over the grid. -/
theorem hcond0_4 : ∀ t : Fin cfg0.N, cond0_4 (grid0.coords t) ↔ (48 ≤ t.val % 80 ∧ t.val % 80 ≤ 63) :=
  (by decide +kernel : ∀ t : Fin grid0.N, cond0_4 (grid0.coords t) ↔ (48 ≤ t.val % 80 ∧ t.val % 80 ≤ 63))

/-- The condition of the body's `scf.if` 5 (`k0_h6`), from the grid coordinates (the skeleton's scalar
    chain substituted). -/
abbrev cond0_5 (i : grid0.Coords) : Prop := k0_cond6 i = 1#1
/-- It holds at the points whose coordinates have 64 ≤ i1 — decided over the grid. -/
theorem hcond0_5 : ∀ t : Fin cfg0.N, cond0_5 (grid0.coords t) ↔ 64 ≤ t.val % 80 :=
  (by decide +kernel : ∀ t : Fin grid0.N, cond0_5 (grid0.coords t) ↔ 64 ≤ t.val % 80)

/-- The condition of the body's `scf.if` 6 (`k0_h7`), from the grid coordinates (the skeleton's scalar
    chain substituted). -/
abbrev cond0_6 (i : grid0.Coords) : Prop := k0_cond7 i = 1#1
/-- It holds at the points ≡ 79 (mod 80) — by arithmetic of the point. -/
theorem hcond0_6 : ∀ t : Fin cfg0.N, cond0_6 (grid0.coords t) ↔ t.val % 80 = 79 :=
  (fun t => by
    have ht : t.val < 640 := Nat.lt_of_lt_of_eq t.isLt N_0
    have e0 : (grid0.coords t 0).val = t.val / 80 % 8 := Pipeline.Grid.coords_val t 0 (by decide) rfl
    have e1 : (grid0.coords t 1).val = t.val / 1 % 80 := Pipeline.Grid.coords_val t 1 (by decide) rfl
    simp only [cond0_6, k0_cond7, e0, e1]
    word_cmp
   : ∀ t : Fin grid0.N, cond0_6 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280x576 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x576 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1280x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280x64 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S576x1280 .bf16 := Memref.whole cc0_scratch0
abbrev scM0_1 : Memref sig .tc .vmem S1280x128 .f32 := Memref.whole cc0_scratch1
abbrev scM0_2 : Memref sig .tc .vmem S1280x512 .bf16 := Memref.whole cc0_scratch2
abbrev scM0_3 : Memref sig .tc .vmem S1280x512 .bf16 := Memref.whole cc0_scratch3
abbrev scM0_4 : Memref sig .tc .vmem S1280x512 .bf16 := Memref.whole cc0_scratch4
abbrev scM0_5 : Memref sig .tc .vmem S64x1280 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the stores of one run of the body leave in the buffers that are followed, as pieces, last first: the three
    outputs, the transposed keys, the key scales in columns, and the rope accumulator. -/
structure Pieces (F : FTy → Type) where
  dq : List (View.Piece (Elt F) S1x512x576 .bf16)
  dc : List (View.Piece (Elt F) S1x1280x512 .f32)
  dkr : List (View.Piece (Elt F) S1x1280x64 .f32)
  kt : List (View.Piece (Elt F) S576x1280 .bf16)
  kvr : List (View.Piece (Elt F) S1280x128 .f32)
  dkrt : List (View.Piece (Elt F) S64x1280 .f32)

section
variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

/-- The body's triple: from the inputs' buffers at their contents, the followed buffers at theirs and the others at
    anything, the body ends with the inputs' as they were, the followed buffers with the pieces `L` written, the others
    at anything. -/
def RunSpec (L : Pieces F) : Prop :=
  ∀ (E : Set ℕ) (K : PUnit → sProp 𝕄),
    iprop((arg2.view.loc (c : Thread nD τ) ↦[arg2.view.set]{fullShare} harg2.unread x0)
      ∗ (arg3.view.loc (c : Thread nD τ) ↦[arg3.view.set]{fullShare} harg3.unread x1)
      ∗ (arg4.view.loc (c : Thread nD τ) ↦[arg4.view.set]{fullShare} harg4.unread x2)
      ∗ (arg5.view.loc (c : Thread nD τ) ↦[arg5.view.set]{fullShare} harg5.unread x3)
      ∗ (arg6.view.loc (c : Thread nD τ) ↦[arg6.view.set]{fullShare} harg6.unread x4)
      ∗ (arg7.view.loc (c : Thread nD τ) ↦[arg7.view.set]{fullShare} harg7.unread x5)
      ∗ (arg8.view.loc (c : Thread nD τ) ↦[arg8.view.set]{fullShare} harg8.unread x6)
      ∗ (arg9.view.loc (c : Thread nD τ) ↦[arg9.view.set]{fullShare} harg9.unread x7)
      ∗ (∃ f, arg10.view.loc (c : Thread nD τ) ↦[arg10.view.set]{fullShare} f)
      ∗ (arg11.view.loc (c : Thread nD τ) ↦[arg11.view.set]{fullShare} harg11.unread x9)
      ∗ (arg12.view.loc (c : Thread nD τ) ↦[arg12.view.set]{fullShare} harg12.unread x10)
      ∗ (arg13.view.loc (c : Thread nD τ) ↦[arg13.view.set]{fullShare} harg13.unread xs0)
      ∗ (arg14.view.loc (c : Thread nD τ) ↦[arg14.view.set]{fullShare} harg14.unread xs1)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (arg18.view.loc (c : Thread nD τ) ↦[arg18.view.set]{fullShare} harg18.unread xs5)
      ∗ (iprop((arg2.view.loc (c : Thread nD τ) ↦[arg2.view.set]{fullShare} harg2.unread x0)
      ∗ (arg3.view.loc (c : Thread nD τ) ↦[arg3.view.set]{fullShare} harg3.unread x1)
      ∗ (arg4.view.loc (c : Thread nD τ) ↦[arg4.view.set]{fullShare} harg4.unread x2)
      ∗ (arg5.view.loc (c : Thread nD τ) ↦[arg5.view.set]{fullShare} harg5.unread x3)
      ∗ (arg6.view.loc (c : Thread nD τ) ↦[arg6.view.set]{fullShare} harg6.unread x4)
      ∗ (arg7.view.loc (c : Thread nD τ) ↦[arg7.view.set]{fullShare} harg7.unread x5)
      ∗ (arg8.view.loc (c : Thread nD τ) ↦[arg8.view.set]{fullShare} harg8.unread x6)
      ∗ (arg9.view.loc (c : Thread nD τ) ↦[arg9.view.set]{fullShare} harg9.unread x7)
      ∗ (∃ f, arg10.view.loc (c : Thread nD τ) ↦[arg10.view.set]{fullShare} arg10.view.writes (Elt F) f L.dq)
      ∗ (arg11.view.loc (c : Thread nD τ) ↦[arg11.view.set]{fullShare} arg11.view.writes (Elt F) (harg11.unread x9) L.dc)
      ∗ (arg12.view.loc (c : Thread nD τ) ↦[arg12.view.set]{fullShare} arg12.view.writes (Elt F) (harg12.unread x10) L.dkr)
      ∗ (arg13.view.loc (c : Thread nD τ) ↦[arg13.view.set]{fullShare} arg13.view.writes (Elt F) (harg13.unread xs0) L.kt)
      ∗ (arg14.view.loc (c : Thread nD τ) ↦[arg14.view.set]{fullShare} arg14.view.writes (Elt F) (harg14.unread xs1) L.kvr)
      ∗ (∃ f, arg15.view.loc (c : Thread nD τ) ↦[arg15.view.set]{fullShare} f)
      ∗ (∃ f, arg16.view.loc (c : Thread nD τ) ↦[arg16.view.set]{fullShare} f)
      ∗ (∃ f, arg17.view.loc (c : Thread nD τ) ↦[arg17.view.set]{fullShare} f)
      ∗ (arg18.view.loc (c : Thread nD τ) ↦[arg18.view.set]{fullShare} arg18.view.writes (Elt F) (harg18.unread xs5) L.dkrt)) -∗ K ⟨⟩))
    ⊢ wp frame (wpE (defs₀ (F := F)) Variants.none c none) E
        (cc0_mla_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K

end

end Cert.KernelIdeal.Hand

end
-- ==== Proof.Run.A.lean ====
/- The run of the body at the first step of a batch. -/
module

public import proofs.«01_k».proof.Proof.Run.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at the first step of a batch, with its triple: found by running it. -/
def runA
    (hc0 : cond0_0 i) (hc1 : cond0_1 i) (hc2 : ¬cond0_2 i) (hc3 : ¬cond0_3 i) (hc4 : ¬cond0_4 i) (hc5 : ¬cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], ?_, ?_, ?_⟩, fun E K => ?run⟩
  case run =>
    dsimp only
    simp only [cc0_mla_bwd_eq_skeleton]; unfold cc0_mla_bwd_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part37_eq_skeleton, k0_part38_eq_skeleton, k0_part12_eq_skeleton, k0_part10_eq_skeleton, k0_part11_eq_skeleton, k0_part39_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.Ops.lean ====
/- The vector expressions of the body, each written once over the arrays it reads. -/
module

public import proofs.«01_k».proof.Proof.Gen.KernelIdeal

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The row of a query block's per-row numbers. -/
def rowV (x : Vec F S1x1x1x512 .f32) : FVec F S1x512 .f32 := shapeCast S1x512 x shapeCasts_S1x1x1x512_S1x512

/-- The row of numbers times softmax's scale. -/
def scaleV (x : Vec F S1x1x1x512 .f32) : FVec F S1x512 .f32 :=
  mulf (broadcast S1x512 (Named.named κ "scale" 0x3D93CD3A#32 : F .f32)) (rowV x)

/-- The row of numbers times softmax's scale over `ln 2`. -/
def scaleLog2V (x : Vec F S1x1x1x512 .f32) : FVec F S1x512 .f32 :=
  mulf (broadcast S1x512 (Named.named κ "scale_log2e" 0x3DD53B95#32 : F .f32)) (rowV x)

/-- The row of numbers over `ln 2`. -/
def log2V (x : Vec F S1x1x1x512 .f32) : FVec F S1x512 .f32 :=
  mulf (broadcast S1x512 (Named.named κ "log2e" 0x3FB8AA3B#32 : F .f32)) (rowV x)

/-- The row in the products' type. -/
def rowHalfV (x : Vec F S1x1x1x512 .f32) : FVec F S1x512 .bf16 := truncf .bf16 (rowV x) bitsLt_bf16_f32

/-- The products of the output and its gradient, element by element. -/
def prodV (g : Vec F S1x512x512 .fp8e5m2) (o : Vec F S1x512x512 .bf16) : FVec F S512x512 .f32 :=
  mulf (extf .f32 (shapeCast S512x512 g shapeCasts_S1x512x512_S512x512 : FVec F S512x512 .fp8e5m2) bitsLt_fp8e5m2_f32)
    (extf .f32 (shapeCast S512x512 o shapeCasts_S1x512x512_S512x512 : FVec F S512x512 .bf16) bitsLt_bf16_f32)

/-- The products' four parts of 128 columns added up. -/
def foldV (p : FVec F S512x512 .f32) : FVec F S512x128 .f32 :=
  addf (addf (addf (extractStridedSlice S512x128 ![0, 0] p slices_S512x512_o0_0_S512x128)
    (extractStridedSlice S512x128 ![0, 128] p slices_S512x512_o0_128_S512x128))
    (extractStridedSlice S512x128 ![0, 256] p slices_S512x512_o0_256_S512x128))
    (extractStridedSlice S512x128 ![0, 384] p slices_S512x512_o0_384_S512x128)

/-- Each row's product of output and gradient, scaled. -/
def deltaV (g : Vec F S1x512x512 .fp8e5m2) (o : Vec F S1x512x512 .bf16) (x : Vec F S1x1x1x512 .f32) : FVec F S1x512 .f32 :=
  mulf (scaleV x) (shapeCast S1x512
    (multiReduction .add [0] S512 (transpose S128x512 [1, 0] (foldV (prodV g o)) transposes_S512x128_p1_0_S128x512 : FVec F S128x512 .f32)
      0x00000000#32 reduces_S128x512_S512 (.inl rfl) rfl : FVec F S512 .f32) shapeCasts_S512_S1x512)

/-- A tile's keys against every query row. -/
def rawV (kc : Vec F S1x256x576 .fp8e4m3) (q : Vec F S1x512x576 .fp8e4m3) : FVec F S256x512 .f32 :=
  matmul dot_S256x576_S512x576_S256x512_1_1_0_0_n_n none
    (shapeCast S256x576 kc shapeCasts_S1x256x576_S256x576 : FVec F S256x576 .fp8e4m3)
    (shapeCast S512x576 q shapeCasts_S1x512x576_S512x576 : FVec F S512x576 .fp8e4m3) (constant S256x512 .f32 0x00000000#32)

/-- A tile's values against every row of the output's gradient. -/
def rawDpV (kc : Vec F S1x256x576 .fp8e4m3) (g : Vec F S1x512x512 .fp8e5m2) : FVec F S256x512 .f32 :=
  matmul dot_S256x512_S512x512_S256x512_1_1_0_0_n_n none
    (extf .bf16 (extractStridedSlice S256x512 ![0, 0] (shapeCast S256x576 kc shapeCasts_S1x256x576_S256x576 : FVec F S256x576 .fp8e4m3)
      slices_S256x576_o0_0_S256x512 : FVec F S256x512 .fp8e4m3) bitsLt_fp8e4m3_bf16)
    (shapeCast S512x512 g shapeCasts_S1x512x512_S512x512 : FVec F S512x512 .fp8e5m2) (constant S256x512 .f32 0x00000000#32)

/-- The keys' scales along the lanes of a tile. -/
def ksV (s : Vec F S256x128 .f32) : FVec F S256x512 .f32 :=
  concatenate S256x512 1 [⟨S256x128, s⟩, ⟨S256x128, s⟩, ⟨S256x128, s⟩, ⟨S256x128, s⟩]
    concatenates_S256x128_S256x128_S256x128_S256x128_S256x512_d1

/-- A tile's probabilities, no key left out. -/
def pV (kc : Vec F S1x256x576 .fp8e4m3) (q : Vec F S1x512x576 .fp8e4m3) (s : Vec F S256x128 .f32)
    (xq xl : Vec F S1x1x1x512 .f32) : FVec F S256x512 .f32 :=
  exp2 (subf (mulf (mulf (rawV kc q) (ksV s)) (broadcastTo S256x512 (scaleLog2V xq) broadcasts_S1x512_S256x512))
    (broadcastTo S256x512 (log2V xl) broadcasts_S1x512_S256x512))

/-- The token of each query row, from the step's first token. -/
def tokV (a : BitVec 32) : IVec S1x512 32 :=
  have v40 : IVec S1x512 32 := iota .tc S1x512 32 [1] iota_S1x512_d1_w32
  have v41 : IVec S1x512 32 := broadcast S1x512 32#32
  have v42 : IVec S1x512 32 := divsi v40 v41
  have v44 : IVec S1x512 1 := cmpi .sgt v40 (broadcast S1x512 0#32)
  have v45 : IVec S1x512 32 := extui 32 v44 natLt_1_32
  have v47 : IVec S1x512 1 := cmpi .slt v40 (broadcast S1x512 0#32)
  have v48 : IVec S1x512 32 := extui 32 v47 natLt_1_32
  have v49 : IVec S1x512 32 := subi v45 v48
  have v55 : IVec S1x512 32 := broadcast S1x512
    (Scalar.subi (Scalar.extui (Scalar.cmpi .sgt 32#32 0#32)) (Scalar.extui (Scalar.cmpi .slt 32#32 0#32)))
  have v56 : IVec S1x512 1 := cmpi .ne v49 v55
  have v58 : IVec S1x512 32 := remsi v40 (broadcast S1x512 32#32)
  have v60 : IVec S1x512 1 := cmpi .ne v58 (broadcast S1x512 0#32)
  have v61 : IVec S1x512 1 := andi v56 v60
  have v63 : IVec S1x512 32 := subi v42 (broadcast S1x512 1#32)
  have v64 : IVec S1x512 32 := select v61 v63 v42
  addi (broadcast S1x512 (Scalar.muli a 16#32)) v64

/-- Which keys of the tile from key `o` a query row sees. -/
def seenV (o a : BitVec 32) : IVec S256x512 1 :=
  cmpi .sle
    (broadcastTo S256x512 (addi (broadcast S256x1 o) (iota .tc S256x1 32 [0] iota_S256x1_d0_w32) : IVec S256x1 32) broadcasts_S256x1_S256x512)
    (broadcastTo S256x512 (tokV a) broadcasts_S1x512_S256x512)

/-- The probabilities with the keys a row does not see left out. -/
def maskV (o a : BitVec 32) (p : FVec F S256x512 .f32) : FVec F S256x512 .f32 :=
  select (seenV o a) p (broadcast S256x512 (Scalar.ofBits .f32 0x00000000#32 : F .f32))

/-- The gradient at a tile's scores, from its probabilities. -/
def dsV (p : FVec F S256x512 .f32) (kc : Vec F S1x256x576 .fp8e4m3) (g : Vec F S1x512x512 .fp8e5m2) (s : Vec F S256x128 .f32)
    (o : Vec F S1x512x512 .bf16) (xd : Vec F S1x1x1x512 .f32) : FVec F S256x512 .bf16 :=
  truncf .bf16 (mulf p (subf (mulf (mulf (rawDpV kc g) (ksV s)) (broadcastTo S256x512 (scaleV xd) broadcasts_S1x512_S256x512))
    (broadcastTo S256x512 (deltaV g o xd) broadcasts_S1x512_S256x512))) bitsLt_bf16_f32

/-- The gradient at the scores times the queries' scales. -/
def dsqV (d : FVec F S256x512 .bf16) (xq : Vec F S1x1x1x512 .f32) : FVec F S256x512 .bf16 :=
  mulf d (broadcastTo S256x512 (rowHalfV xq) broadcasts_S1x512_S256x512)

/-- The probabilities times the output gradient's scales. -/
def ptV (p : FVec F S256x512 .f32) (xd : Vec F S1x1x1x512 .f32) : FVec F S256x512 .bf16 :=
  mulf (truncf .bf16 p bitsLt_bf16_f32) (broadcastTo S256x512 (rowHalfV xd) broadcasts_S1x512_S256x512)

end Cert.KernelIdeal.Hand
-- ==== Proof.Val.Closed.lean ====
/- What one step of the kernel computes, as functions of the index over the extended reals. -/
module

public import proofs.«01_k».proof.Proof.Val.Ops
public import Idealize.ShloMosaic.Lib.Pointwise

@[expose] public section

set_option maxRecDepth 16384

noncomputable section

namespace Cert.KernelIdeal.Hand

open Cert.KernelIdeal.Gen
open Idealize.ShloMosaic Idealize.ShloMosaic.TcCoe

/-- Softmax's scale. -/
def cS : EReal := Named.named (F := Ideal) κ "scale" (φ := .f32) 0x3D93CD3A#32
/-- Softmax's scale over `ln 2`. -/
def cSL : EReal := Named.named (F := Ideal) κ "scale_log2e" (φ := .f32) 0x3DD53B95#32
/-- One over `ln 2`. -/
def cL : EReal := Named.named (F := Ideal) κ "log2e" (φ := .f32) 0x3FB8AA3B#32

/-- The blocks a step reads: queries, keys, output, its gradient, the rows' log sums, the scales of queries, of the
    gradient and of the keys. -/
structure Ins where
  x0 : Vec Ideal S1x512x576 .fp8e4m3
  x1 : Vec Ideal S1x1280x576 .fp8e4m3
  x2 : Vec Ideal S1x512x512 .bf16
  x3 : Vec Ideal S1x512x512 .fp8e5m2
  x4 : Vec Ideal S1x1x1x512 .f32
  x5 : Vec Ideal S1x1x1x512 .f32
  x6 : Vec Ideal S1x1x1x512 .f32
  x7 : Vec Ideal S1x1x1280 .f32

namespace Ins

variable (B : Ins)

/-- Key against query row, unscaled. -/
def raw (k : Fin 1280) (r : Fin 512) : EReal := ∑ d : Fin 576, B.x1 (ix3 0 k d) * B.x0 (ix3 0 r d)
/-- Value against the row's output gradient, unscaled. -/
def rawDp (k : Fin 1280) (r : Fin 512) : EReal := ∑ d : Fin 512, B.x1 (ix3 0 k ⟨d.val, by omega⟩) * B.x3 (ix3 0 r d)
/-- The product of output and gradient. -/
def prod (r d : Fin 512) : EReal := B.x3 (ix3 0 r d) * B.x2 (ix3 0 r d)
/-- Each row's product of output and gradient, scaled. -/
def delta (r : Fin 512) : EReal :=
  cS * B.x6 (ix4 0 0 0 r) * ∑ l : Fin 128, (B.prod r ⟨l.val, by omega⟩ + B.prod r ⟨128 + l.val, by omega⟩
    + B.prod r ⟨256 + l.val, by omega⟩ + B.prod r ⟨384 + l.val, by omega⟩)
/-- The probability, were every key seen. -/
def pAll (k : Fin 1280) (r : Fin 512) : EReal :=
  Ideal.exp2 (B.raw k r * B.x7 (ix3 0 0 k) * (cSL * B.x5 (ix4 0 0 0 r)) - cL * B.x4 (ix4 0 0 0 r))
/-- The probability at step `n`, zero at a key after the row's token. -/
def p (n : ℕ) (k : Fin 1280) (r : Fin 512) : EReal := if k.val ≤ 16 * n + r.val / 32 then B.pAll k r else 0
/-- The gradient at the score. -/
def ds (n : ℕ) (k : Fin 1280) (r : Fin 512) : EReal :=
  B.p n k r * (B.rawDp k r * B.x7 (ix3 0 0 k) * (cS * B.x6 (ix4 0 0 0 r)) - B.delta r)
/-- The same times the query's scale. -/
def dsq (n : ℕ) (k : Fin 1280) (r : Fin 512) : EReal := B.ds n k r * B.x5 (ix4 0 0 0 r)
/-- The probability times the gradient's scale. -/
def pt (n : ℕ) (k : Fin 1280) (r : Fin 512) : EReal := B.p n k r * B.x6 (ix4 0 0 0 r)
/-- What step `n` adds to the gradient of the latent part. -/
def dcAdd (n : ℕ) (k : Fin 1280) (c : Fin 512) : EReal :=
  (∑ r : Fin 512, B.dsq n k r * B.x0 (ix3 0 r ⟨c.val, by omega⟩)) + ∑ r : Fin 512, B.pt n k r * B.x3 (ix3 0 r c)
/-- What step `n` adds to the gradient of the rotary part. -/
def dkrAdd (n : ℕ) (d : Fin 64) (k : Fin 1280) : EReal :=
  ∑ r : Fin 512, B.x0 (ix3 0 r ⟨512 + d.val, by omega⟩) * B.dsq n k r
/-- The key with its scale. -/
def kt (d : Fin 576) (k : Fin 1280) : EReal := B.x1 (ix3 0 k d) * B.x7 (ix3 0 0 k)
/-- The gradient of the queries. -/
def dq (n : ℕ) (r : Fin 512) (d : Fin 576) : EReal := ∑ k : Fin 1280, B.kt d k * B.ds n k r

end Ins

end Cert.KernelIdeal.Hand
-- ==== Proof.Val.Tile.lean ====
/- The body's tile expressions read at an index. -/
module

public import proofs.«01_k».proof.Proof.Val.Closed

@[expose] public section

set_option maxRecDepth 16384

noncomputable section

namespace Cert.KernelIdeal.Hand

open Cert.KernelIdeal.Gen
open Idealize.ShloMosaic Idealize.ShloMosaic.TcCoe

theorem scaleV_apply (x : Vec Ideal S1x1x1x512 .f32) (r : Fin 512) : scaleV x (ix2 0 r) = cS * x (ix4 0 0 0 r) := by
  pointwise [scaleV, rowV, cS]
theorem scaleLog2V_apply (x : Vec Ideal S1x1x1x512 .f32) (r : Fin 512) : scaleLog2V x (ix2 0 r) = cSL * x (ix4 0 0 0 r) := by
  pointwise [scaleLog2V, rowV, cSL]
theorem log2V_apply (x : Vec Ideal S1x1x1x512 .f32) (r : Fin 512) : log2V x (ix2 0 r) = cL * x (ix4 0 0 0 r) := by
  pointwise [log2V, rowV, cL]
theorem rowHalfV_apply (x : Vec Ideal S1x1x1x512 .f32) (r : Fin 512) : rowHalfV x (ix2 0 r) = x (ix4 0 0 0 r) := by
  pointwise [rowHalfV, rowV]

theorem deltaV_apply (B : Ins) (r : Fin 512) : deltaV B.x3 B.x2 B.x6 (ix2 0 r) = B.delta r := by
  pointwise [deltaV, scaleV, rowV, foldV, prodV, Ins.delta, Ins.prod, cS]

theorem rawV_apply (kc : Vec Ideal S1x256x576 .fp8e4m3) (q : Vec Ideal S1x512x576 .fp8e4m3) (k : Fin 256) (r : Fin 512) :
    rawV kc q (ix2 k r) = ∑ d : Fin 576, kc (ix3 0 k d) * q (ix3 0 r d) := by
  pointwise [rawV]

theorem rawDpV_apply (kc : Vec Ideal S1x256x576 .fp8e4m3) (g : Vec Ideal S1x512x512 .fp8e5m2) (k : Fin 256) (r : Fin 512) :
    rawDpV kc g (ix2 k r) = ∑ d : Fin 512, kc (ix3 0 k ⟨d.val, by omega⟩) * g (ix3 0 r d) := by
  pointwise [rawDpV]

/-- Where every lane of a key's row holds its scale, so does the tile. -/
theorem ksV_apply (s : Vec Ideal S256x128 .f32) (a : EReal) (k : Fin 256) (h : ∀ l, s (ix2 k l) = a) (r : Fin 512) :
    ksV s (ix2 k r) = a := by
  pointwise [ksV]
  simp only [h, ite_self, dite_eq_ite]

/-- The host's floor division of a row's number by 32, as the body spells it. -/
theorem tokV_apply (a : BitVec 32) (r : Fin 512) : tokV a (ix2 0 r) = a * 16#32 + BitVec.ofNat 32 (r.val / 32) := by
  pointwise [tokV]
  congr 1
  revert r
  decide +kernel

/-- A row sees the keys up to its token. -/
theorem seenV_apply (o n : ℕ) (ho : o ≤ 1024) (hn : n < 80) (k : Fin 256) (r : Fin 512) :
    seenV (BitVec.ofNat 32 o) (BitVec.ofNat 32 n) (ix2 k r) = if o + k.val ≤ 16 * n + r.val / 32 then 1#1 else 0#1 := by
  pointwise [seenV, tokV_apply]
  have e1 : IntOp.addi (BitVec.ofNat 32 o) (BitVec.ofNat 32 k.val) = BitVec.ofNat 32 (o + k.val) := (BitVec.ofNat_add o k.val).symm
  have e2 : BitVec.ofNat 32 n * 16#32 + BitVec.ofNat 32 (r.val / 32) = BitVec.ofNat 32 (16 * n + r.val / 32) := by
    rw [BitVec.ofNat_add, Nat.mul_comm 16 n, BitVec.ofNat_mul]
  have ti : ∀ a : ℕ, a < 4096 → (BitVec.ofNat 32 a).toInt = a := fun a h => by
    have hm : a % 2 ^ 32 = a := Nat.mod_eq_of_lt (by omega)
    rw [BitVec.toInt_eq_toNat_of_lt (by rw [BitVec.toNat_ofNat, hm]; omega), BitVec.toNat_ofNat, hm]
  rw [e1, e2]
  show BitVec.ofBool (BitVec.sle _ _) = _
  rw [BitVec.sle, ti _ (by omega), ti _ (by omega)]
  by_cases h : o + k.val ≤ 16 * n + r.val / 32
  · rw [if_pos h, decide_eq_true (by exact_mod_cast h)]; rfl
  · rw [if_neg h, decide_eq_false (by exact_mod_cast h)]; rfl

/-- The blocks of a tile at keys `o` on: the keys' rows and their scales. -/
structure TileOf (B : Ins) (o : ℕ) (ho : o ≤ 1024) (kc : Vec Ideal S1x256x576 .fp8e4m3) (s : Vec Ideal S256x128 .f32) : Prop where
  hk : ∀ (k : Fin 256) (d : Fin 576), kc (ix3 0 k d) = B.x1 (ix3 0 ⟨o + k.val, by omega⟩ d)
  hs : ∀ (k : Fin 256) (l : Fin 128), s (ix2 k l) = B.x7 (ix3 0 0 ⟨o + k.val, by omega⟩)

variable {B : Ins} {o : ℕ} {ho : o ≤ 1024} {kc : Vec Ideal S1x256x576 .fp8e4m3} {s : Vec Ideal S256x128 .f32}

theorem pV_apply (h : TileOf B o ho kc s) (k : Fin 256) (r : Fin 512) :
    pV kc B.x0 s B.x5 B.x4 (ix2 k r) = B.pAll ⟨o + k.val, by omega⟩ r := by
  pointwise [pV, rawV_apply, ksV_apply _ _ _ (h.hs _), scaleLog2V_apply, log2V_apply, h.hk, Ins.pAll, Ins.raw]
  rfl

/-- The unmasked tile, where the step's first token is past the tile. -/
theorem pV_open (h : TileOf B o ho kc s) (n : ℕ) (hn : o + 255 ≤ 16 * n) (k : Fin 256) (r : Fin 512) :
    pV kc B.x0 s B.x5 B.x4 (ix2 k r) = B.p n ⟨o + k.val, by omega⟩ r := by
  rw [pV_apply h, Ins.p, if_pos (by dsimp only; omega)]

/-- The masked tile. -/
theorem maskV_apply (h : TileOf B o ho kc s) (n : ℕ) (hn : n < 80) (k : Fin 256) (r : Fin 512) :
    maskV (BitVec.ofNat 32 o) (BitVec.ofNat 32 n) (pV kc B.x0 s B.x5 B.x4) (ix2 k r) = B.p n ⟨o + k.val, by omega⟩ r := by
  pointwise [maskV, seenV_apply _ _ ho hn, pV_apply h, Ins.p]
  split_ifs <;> rfl

theorem dsV_apply (h : TileOf B o ho kc s) (n : ℕ) {p : FVec Ideal S256x512 .f32}
    (hp : ∀ (k : Fin 256) (r : Fin 512), p (ix2 k r) = B.p n ⟨o + k.val, by omega⟩ r) (k : Fin 256) (r : Fin 512) :
    dsV p kc B.x3 s B.x2 B.x6 (ix2 k r) = B.ds n ⟨o + k.val, by omega⟩ r := by
  pointwise [dsV, hp, rawDpV_apply, ksV_apply _ _ _ (h.hs _), scaleV_apply, deltaV_apply, h.hk, Ins.ds, Ins.rawDp]

theorem dsqV_apply (h : TileOf B o ho kc s) (n : ℕ) {p : FVec Ideal S256x512 .f32}
    (hp : ∀ (k : Fin 256) (r : Fin 512), p (ix2 k r) = B.p n ⟨o + k.val, by omega⟩ r) (k : Fin 256) (r : Fin 512) :
    dsqV (dsV p kc B.x3 s B.x2 B.x6) B.x5 (ix2 k r) = B.dsq n ⟨o + k.val, by omega⟩ r := by
  pointwise [dsqV, dsV_apply h n hp, rowHalfV_apply, Ins.dsq]

theorem ptV_apply (n : ℕ) {p : FVec Ideal S256x512 .f32}
    (hp : ∀ (k : Fin 256) (r : Fin 512), p (ix2 k r) = B.p n ⟨o + k.val, by omega⟩ r) (k : Fin 256) (r : Fin 512) :
    ptV p B.x6 (ix2 k r) = B.pt n ⟨o + k.val, by omega⟩ r := by
  pointwise [ptV, hp, rowHalfV_apply, Ins.pt]

end Cert.KernelIdeal.Hand
-- ==== Proof.Val.Agree.lean ====
/- Reading a buffer after a list of writes, when every write puts down the elements of one function of the index. -/
module

public import Idealize.ShloMosaic.Lib.Pipeline.FrameBody
public import Idealize.ShloMosaic.Lib.WritesUnit

@[expose] public section

namespace Idealize.ShloMosaic.View

variable {sig : RefSig} {κ : Kind} {sp : Space} {s : Shape} {e : EltTy} {Val : EltTy → Type}

/-- Where every piece holds the elements of `g`, and the contents read `g` wherever no piece lies, what is left
    reads `g`. -/
theorem read_writes_agree (v : View sig κ sp s e) (f : v.ty.Contents Val) (g : s.Idx → Val e) (y : s.Idx) :
    ∀ L : List (Piece Val s e), (∀ p ∈ L, ∀ x, p.2 x = g (p.1.emb x)) →
      ((∀ p ∈ L, y ∉ p.1.set) → v.read Val f y = g y) → v.read Val (v.writes Val f L) y = g y
  | [], _, hoff => by rw [writes_nil]; exact hoff (fun _ h => absurd h List.not_mem_nil)
  | p :: L, hL, hoff => by
    by_cases hy : y ∈ p.1.set
    · have hp := hL p List.mem_cons_self
      obtain ⟨r, w⟩ := p
      obtain ⟨x, rfl⟩ : ∃ x, r.emb x = y := r.exists_idx_of_mem hy
      rw [read_writes_cons_emb]
      exact hp x
    · have hy' : y ∉ Finset.univ.map p.1.emb := by rwa [Rect.map_emb_univ]
      rw [writes_cons, read_slice_write_of_not_mem p.1 _ _ _ hy']
      exact read_writes_agree v f g y L (fun q hq => hL q (List.mem_cons_of_mem _ hq)) fun h =>
        hoff fun q hq => by
          rcases List.mem_cons.mp hq with rfl | hq
          · exact hy
          · exact h q hq

/-- A load of what covering pieces left, each holding the elements of `g`, reads `g` through the box. -/
theorem readCov_agree [∀ e, Nonempty (Val e)] (v : View sig κ sp s e) (L : List (Piece Val s e)) (B : LoadRect s)
    (g : s.Idx → Val e) (hL : ∀ p ∈ L, ∀ x, p.2 x = g (p.1.emb x)) (j : B.shape.Idx)
    (h : ∃ p ∈ L, B.idx j ∈ p.1.set) : v.readCov L B j = g (B.idx j) :=
  read_writes_agree v v.junk g (B.idx j) L hL fun hn => by
    obtain ⟨p, hp, hy⟩ := h
    exact absurd hy (hn p hp)

end Idealize.ShloMosaic.View
-- ==== Proof.Val.Outer.lean ====
/- What the body does with its tiles: the gradient of the queries by columns, sums over the keys of a range. -/
module

public import proofs.«01_k».proof.Proof.Val.Tile
public import proofs.«01_k».proof.Proof.Val.Agree

@[expose] public section

set_option maxRecDepth 16384

noncomputable section

namespace Cert.KernelIdeal.Hand

open Cert.KernelIdeal.Gen
open Idealize.ShloMosaic Idealize.ShloMosaic.TcCoe

/-- A load of the whole of a buffer. -/
theorem load_all {sp : Space} {S : Shape} {e : EltTy} (a : Memref sig .tc sp S e) (h : a.IsWhole)
    {off : Fin S.rank → ℕ} (inb : ∀ j, off j + S.size j ≤ S.size j) (hoff : ∀ j, off j = 0) (x : Vec Ideal S e) :
    a.view.readAt (Elt Ideal) (Rect.unit off S.size inb).toLoadRect (h.unread x) = x := by
  obtain rfl : off = fun _ => 0 := funext hoff
  rw [View.readAt_eq_ld, h.read_unread]
  exact funext fun y => congrArg x (funext fun a => Fin.ext (by simp [Rect.unit]))

/-- An index of a box of a rank-2 array, in the array. -/
theorem emb2 {A C a c o₀ o₁ : ℕ} (inb : ∀ j : Fin 2, (![o₀, o₁] : Fin 2 → ℕ) j + (![a, c] : Fin 2 → ℕ) j ≤ (![A, C] : Fin 2 → ℕ) j)
    (i : Fin a) (j : Fin c) (h₀ : o₀ + i.val < A) (h₁ : o₁ + j.val < C) :
    (Rect.unit (s := ⟨2, ![A, C]⟩) ![o₀, o₁] ![a, c] inb).emb (ix2 i j) = ix2 ⟨o₀ + i.val, h₀⟩ ⟨o₁ + j.val, h₁⟩ :=
  funext fun b => by
    match b with
    | 0 => exact Fin.ext (by show o₀ + 1 * i.val = _; rw [Nat.one_mul]; rfl)
    | 1 => exact Fin.ext (by show o₁ + 1 * j.val = _; rw [Nat.one_mul]; rfl)

/-- An index of a box of a rank-3 array of one slab, in the array. -/
theorem emb3 {A C a c o₀ o₁ : ℕ}
    (inb : ∀ j : Fin 3, (![0, o₀, o₁] : Fin 3 → ℕ) j + (![1, a, c] : Fin 3 → ℕ) j ≤ (![1, A, C] : Fin 3 → ℕ) j)
    (i : Fin a) (j : Fin c) (h₀ : o₀ + i.val < A) (h₁ : o₁ + j.val < C) :
    (Rect.unit (s := ⟨3, ![1, A, C]⟩) ![0, o₀, o₁] ![1, a, c] inb).emb (ix3 0 i j) = ix3 0 ⟨o₀ + i.val, h₀⟩ ⟨o₁ + j.val, h₁⟩ :=
  funext fun b => by
    match b with
    | 0 => exact Fin.ext (by show 0 + 1 * 0 = _; rfl)
    | 1 => exact Fin.ext (by show o₀ + 1 * i.val = _; rw [Nat.one_mul]; rfl)
    | 2 => exact Fin.ext (by show o₁ + 1 * j.val = _; rw [Nat.one_mul]; rfl)

/-- Where an index lies in a box of a rank-2 array. -/
theorem mem2 {A C a c o₀ o₁ : ℕ} (inb : ∀ j : Fin 2, (![o₀, o₁] : Fin 2 → ℕ) j + (![a, c] : Fin 2 → ℕ) j ≤ (![A, C] : Fin 2 → ℕ) j)
    (i : Fin A) (j : Fin C) (h₀ : o₀ ≤ i.val) (h₀' : i.val < o₀ + a) (h₁ : o₁ ≤ j.val) (h₁' : j.val < o₁ + c) :
    (ix2 i j : (⟨2, ![A, C]⟩ : Shape).Idx) ∈ (Rect.unit (s := ⟨2, ![A, C]⟩) ![o₀, o₁] ![a, c] inb).set :=
  Rect.mem_set_unit.mpr fun b => by
    match b with
    | 0 => exact ⟨h₀, h₀'⟩
    | 1 => exact ⟨h₁, h₁'⟩

/-- Where an index lies in a box of a rank-3 array of one slab. -/
theorem mem3 {A C a c o₀ o₁ : ℕ}
    (inb : ∀ j : Fin 3, (![0, o₀, o₁] : Fin 3 → ℕ) j + (![1, a, c] : Fin 3 → ℕ) j ≤ (![1, A, C] : Fin 3 → ℕ) j)
    (i : Fin A) (j : Fin C) (h₀ : o₀ ≤ i.val) (h₀' : i.val < o₀ + a) (h₁ : o₁ ≤ j.val) (h₁' : j.val < o₁ + c) :
    (ix3 0 i j : (⟨3, ![1, A, C]⟩ : Shape).Idx) ∈ (Rect.unit (s := ⟨3, ![1, A, C]⟩) ![0, o₀, o₁] ![1, a, c] inb).set :=
  Rect.mem_set_unit.mpr fun b => by
    match b with
    | 0 => exact ⟨Nat.le_refl 0, Nat.zero_lt_one⟩
    | 1 => exact ⟨h₀, h₀'⟩
    | 2 => exact ⟨h₁, h₁'⟩

/-- The columns of the gradient of the queries, written by five stores out of its transpose. -/
theorem dq_pieces (a : Memref sig .tc .vmem S1x512x576 .bf16) (f : a.view.ty.Contents (Elt Ideal)) (M : FVec Ideal S576x512 .bf16)
    (i0 i1 i2 i3 i4) :
    a.view.read (Elt Ideal) (a.view.writes (Elt Ideal) f
      [⟨Rect.unit ![0, 0, 512] ![1, 512, 64] i4, shapeCast S1x512x64 (transpose S512x64 [1, 0] (extractStridedSlice S64x512 ![512, 0] M slices_S576x512_o512_0_S64x512 : FVec Ideal S64x512 .bf16) transposes_S64x512_p1_0_S512x64 : FVec Ideal S512x64 .bf16) shapeCasts_S512x64_S1x512x64⟩,
       ⟨Rect.unit ![0, 0, 384] ![1, 512, 128] i3, shapeCast S1x512x128 (transpose S512x128 [1, 0] (extractStridedSlice S128x512 ![384, 0] M slices_S576x512_o384_0_S128x512 : FVec Ideal S128x512 .bf16) transposes_S128x512_p1_0_S512x128 : FVec Ideal S512x128 .bf16) shapeCasts_S512x128_S1x512x128⟩,
       ⟨Rect.unit ![0, 0, 256] ![1, 512, 128] i2, shapeCast S1x512x128 (transpose S512x128 [1, 0] (extractStridedSlice S128x512 ![256, 0] M slices_S576x512_o256_0_S128x512 : FVec Ideal S128x512 .bf16) transposes_S128x512_p1_0_S512x128 : FVec Ideal S512x128 .bf16) shapeCasts_S512x128_S1x512x128⟩,
       ⟨Rect.unit ![0, 0, 128] ![1, 512, 128] i1, shapeCast S1x512x128 (transpose S512x128 [1, 0] (extractStridedSlice S128x512 ![128, 0] M slices_S576x512_o128_0_S128x512 : FVec Ideal S128x512 .bf16) transposes_S128x512_p1_0_S512x128 : FVec Ideal S512x128 .bf16) shapeCasts_S512x128_S1x512x128⟩,
       ⟨Rect.unit ![0, 0, 0] ![1, 512, 128] i0, shapeCast S1x512x128 (transpose S512x128 [1, 0] (extractStridedSlice S128x512 ![0, 0] M slices_S576x512_o0_0_S128x512 : FVec Ideal S128x512 .bf16) transposes_S128x512_p1_0_S512x128 : FVec Ideal S512x128 .bf16) shapeCasts_S512x128_S1x512x128⟩])
      = fun y => M (ix2 (y 2) (y 1)) := by
  funext y
  refine View.read_writes_agree a.view f (fun y => M (ix2 (y 2) (y 1))) y _ ?_ ?_
  · refine List.forall_mem_cons.mpr ⟨fun x => ?_, List.forall_mem_cons.mpr ⟨fun x => ?_, List.forall_mem_cons.mpr ⟨fun x => ?_,
      List.forall_mem_cons.mpr ⟨fun x => ?_, List.forall_mem_cons.mpr ⟨fun x => ?_, fun _ h => absurd h List.not_mem_nil⟩⟩⟩⟩⟩
    · obtain ⟨z, r, d, rfl⟩ : ∃ (z : Fin 1) (r : Fin 512) (d : Fin 64), x = ix3 z r d := ⟨x 0, x 1, x 2, eq_ix3 x⟩
      obtain rfl : z = 0 := Subsingleton.elim _ _
      dsimp only
      rw [emb3 i4 r d (by omega) (by omega)]
      pointwise
    all_goals
      obtain ⟨z, r, d, rfl⟩ : ∃ (z : Fin 1) (r : Fin 512) (d : Fin 128), x = ix3 z r d := ⟨x 0, x 1, x 2, eq_ix3 x⟩
      obtain rfl : z = 0 := Subsingleton.elim _ _
      dsimp only
      rw [emb3 _ r d (by omega) (by omega)]
      pointwise
  · intro h
    exfalso
    obtain ⟨z, r, d, rfl⟩ : ∃ (z : Fin 1) (r : Fin 512) (d : Fin 576), y = ix3 z r d := ⟨y 0, y 1, y 2, eq_ix3 y⟩
    obtain rfl : z = 0 := Subsingleton.elim _ _
    have h0 := fun q => h _ (List.mem_cons_of_mem _ (List.mem_cons_of_mem _ (List.mem_cons_of_mem _ (List.mem_cons_of_mem _ List.mem_cons_self)))) (mem3 i0 r d (by omega) (by omega) (by omega) q)
    have h1 := fun p q => h _ (List.mem_cons_of_mem _ (List.mem_cons_of_mem _ (List.mem_cons_of_mem _ List.mem_cons_self))) (mem3 i1 r d (by omega) (by omega) p q)
    have h2 := fun p q => h _ (List.mem_cons_of_mem _ (List.mem_cons_of_mem _ List.mem_cons_self)) (mem3 i2 r d (by omega) (by omega) p q)
    have h3 := fun p q => h _ (List.mem_cons_of_mem _ List.mem_cons_self) (mem3 i3 r d (by omega) (by omega) p q)
    have h4 := fun p q => h _ List.mem_cons_self (mem3 i4 r d (by omega) (by omega) p q)
    clear h
    by_cases a0 : d.val < 128
    · exact h0 (by omega)
    by_cases a1 : d.val < 256
    · exact h1 (by omega) (by omega)
    by_cases a2 : d.val < 384
    · exact h2 (by omega) (by omega)
    by_cases a3 : d.val < 512
    · exact h3 (by omega) (by omega)
    · exact h4 (by omega) (by omega)

/-- A sum over the first keys is the sum over all, where the others add nothing. -/
theorem sum_first {N M : ℕ} (hN : N ≤ M) (f : Fin M → EReal) (h0 : ∀ k : Fin M, N ≤ k.val → f k = 0) :
    ∑ k : Fin N, f ⟨k.val, by omega⟩ = ∑ k : Fin M, f k := by
  obtain ⟨d, rfl⟩ := Nat.exists_eq_add_of_le hN
  rw [Fin.sum_univ_add, Finset.sum_eq_zero (s := Finset.univ) (f := fun i => f (Fin.natAdd N i)) (fun i _ => h0 _ (by simp)), add_zero]
  rfl

end Cert.KernelIdeal.Hand
-- ==== Proof.Val.Step.lean ====
/- What one step of the body leaves in the buffers that are followed, over the extended reals. -/
module

public import proofs.«01_k».proof.Proof.Run.Base
public import proofs.«01_k».proof.Proof.Val.Outer

@[expose] public section

set_option maxRecDepth 16384

noncomputable section

namespace Cert.KernelIdeal.Hand

open Cert.KernelIdeal.Gen
open Idealize.ShloMosaic Idealize.ShloMosaic.TcCoe

/-- The step's contribution to the rotary gradient on top of what the accumulator held, nothing at the first step. -/
def dkrtNext (B : Ins) (n : ℕ) (first : Prop) [Decidable first] (x : Vec Ideal S64x1280 .f32) : Vec Ideal S64x1280 .f32 :=
  fun y => (if first then 0 else x y) + B.dkrAdd n (y 0) (y 1)

/-- The step's contribution to the latent gradient on top of what the output held, nothing at the first step. -/
def dcNext (B : Ins) (n : ℕ) (first : Prop) [Decidable first] (x : Vec Ideal S1x1280x512 .f32) : Vec Ideal S1x1280x512 .f32 :=
  fun y => (if first then 0 else x y) + B.dcAdd n (y 1) (y 2)

/-- The keys with their scales, transposed. -/
def ktOf (B : Ins) : Vec Ideal S576x1280 .bf16 := fun y => B.kt (y 0) (y 1)

/-- The keys' scales along the lanes. -/
def kvrOf (B : Ins) : Vec Ideal S1280x128 .f32 := fun y => B.x7 (ix3 0 0 (y 0))

/-- The gradient of the queries. -/
def dqOf (B : Ins) (n : ℕ) : Vec Ideal S1x512x576 .bf16 := fun y => B.dq n (y 1) (y 2)

/-- What the pieces of step `n` leave. -/
structure StepLeaves (B : Ins) (n : ℕ) (first last : Prop) [Decidable first] [Decidable last]
    (arg10 : Memref sig .tc .vmem S1x512x576 .bf16) (arg11 : Memref sig .tc .vmem S1x1280x512 .f32) (harg11 : arg11.IsWhole)
    (arg12 : Memref sig .tc .vmem S1x1280x64 .f32) (harg12 : arg12.IsWhole)
    (arg13 : Memref sig .tc .vmem S576x1280 .bf16) (harg13 : arg13.IsWhole)
    (arg14 : Memref sig .tc .vmem S1280x128 .f32) (harg14 : arg14.IsWhole)
    (arg18 : Memref sig .tc .vmem S64x1280 .f32) (harg18 : arg18.IsWhole)
    (x9 : Vec Ideal S1x1280x512 .f32) (x10 : Vec Ideal S1x1280x64 .f32) (xs0 : Vec Ideal S576x1280 .bf16)
    (xs1 : Vec Ideal S1280x128 .f32) (xs5 : Vec Ideal S64x1280 .f32) (L : Pieces Ideal) : Prop where
  dq : ∀ f, arg10.view.read (Elt Ideal) (arg10.view.writes (Elt Ideal) f L.dq) = dqOf B n
  dc : arg11.view.read (Elt Ideal) (arg11.view.writes (Elt Ideal) (harg11.unread x9) L.dc) = dcNext B n first x9
  dkr : last → arg12.view.read (Elt Ideal) (arg12.view.writes (Elt Ideal) (harg12.unread x10) L.dkr)
    = fun y => dkrtNext B n first xs5 (ix2 (y 2) (y 1))
  kt : arg13.view.read (Elt Ideal) (arg13.view.writes (Elt Ideal) (harg13.unread xs0) L.kt) = ktOf B
  kvr : arg14.view.read (Elt Ideal) (arg14.view.writes (Elt Ideal) (harg14.unread xs1) L.kvr) = kvrOf B
  dkrt : arg18.view.read (Elt Ideal) (arg18.view.writes (Elt Ideal) (harg18.unread xs5) L.dkrt) = dkrtNext B n first xs5

end Cert.KernelIdeal.Hand
-- ==== Proof.Val.Tiles.lean ====
/- The tiles a step writes and loads again: loads of the keys and their scales, and the scratch buffers' rows. -/
module

public import proofs.«01_k».proof.Proof.Val.Step

@[expose] public section

set_option maxRecDepth 16384

noncomputable section

namespace Cert.KernelIdeal.Hand

open Cert.KernelIdeal.Gen
open Idealize.ShloMosaic Idealize.ShloMosaic.TcCoe

/-- Rows of a scratch buffer written tile by tile, from the first key on, each element `g` of its key and row. -/
inductive Tiles (g : Fin 1280 → Fin 512 → EReal) : ℕ → List (View.Piece (Elt Ideal) S1280x512 .bf16) → Prop
  | nil : Tiles g 0 []
  | cons {L : List (View.Piece (Elt Ideal) S1280x512 .bf16)} (o : ℕ) (ho : o ≤ 1024)
      {inb : ∀ j, (![o, 0] : Fin 2 → ℕ) j + (![256, 512] : Fin 2 → ℕ) j ≤ S1280x512.size j} {w : FVec Ideal S256x512 .bf16}
      (hL : Tiles g o L) (hw : ∀ (k : Fin 256) (r : Fin 512), w (ix2 k r) = g ⟨o + k.val, by omega⟩ r) :
      Tiles g (o + 256) (⟨Rect.unit ![o, 0] ![256, 512] inb, w⟩ :: L)

/-- The same as a function of the buffer's index. -/
def gAt (g : Fin 1280 → Fin 512 → EReal) : Vec Ideal S1280x512 .bf16 := fun y => g (y 0) (y 1)

theorem Tiles.agree {g : Fin 1280 → Fin 512 → EReal} {N : ℕ} {L : List (View.Piece (Elt Ideal) S1280x512 .bf16)} (h : Tiles g N L) :
    ∀ p ∈ L, ∀ x, p.2 x = gAt g (p.1.emb x) := by
  induction h with
  | nil => exact fun _ h => absurd h List.not_mem_nil
  | @cons L o ho inb w hL hw ih =>
    refine List.forall_mem_cons.mpr ⟨fun x => ?_, ih⟩
    obtain ⟨k, r, rfl⟩ : ∃ (k : Fin 256) (r : Fin 512), x = ix2 k r := ⟨x 0, x 1, eq_ix2 x⟩
    refine (hw k r).trans ?_
    dsimp only
    rw [emb2 inb k r (by omega) (by omega)]
    exact congrArg (g _) (Fin.ext (Nat.zero_add _).symm)

theorem Tiles.cover {g : Fin 1280 → Fin 512 → EReal} {N : ℕ} {L : List (View.Piece (Elt Ideal) S1280x512 .bf16)} (h : Tiles g N L)
    (k : Fin 1280) (r : Fin 512) (hk : k.val < N) : ∃ p ∈ L, ix2 k r ∈ p.1.set := by
  induction h with
  | nil => exact absurd hk (Nat.not_lt_zero _)
  | @cons L o ho inb w hL hw ih =>
    by_cases hko : k.val < o
    · obtain ⟨p, hp, hm⟩ := ih hko
      exact ⟨p, List.mem_cons_of_mem _ hp, hm⟩
    · exact ⟨_, List.mem_cons_self, mem2 inb k r (by omega) (by omega) (by omega) (by omega)⟩

/-- The first `N` rows loaded again. -/
theorem Tiles.load {g : Fin 1280 → Fin 512 → EReal} {N : ℕ} {L : List (View.Piece (Elt Ideal) S1280x512 .bf16)} (h : Tiles g N L)
    (hN : N ≤ 1280) (a : Memref sig .tc .vmem S1280x512 .bf16)
    (inb : ∀ j, (![0, 0] : Fin 2 → ℕ) j + (![N, 512] : Fin 2 → ℕ) j ≤ S1280x512.size j) (k : Fin N) (r : Fin 512) :
    a.view.readCov (Val := Elt Ideal) L (Rect.unit (s := S1280x512) ![0, 0] ![N, 512] inb).toLoadRect (ix2 k r) = g ⟨k.val, by omega⟩ r := by
  have e : (Rect.unit (s := S1280x512) ![0, 0] ![N, 512] inb).toLoadRect.idx (ix2 k r) = ix2 ⟨k.val, by omega⟩ r := by
    refine (emb2 inb k r (by omega) (by omega)).trans ?_
    congr 1 <;> exact Fin.ext (Nat.zero_add _)
  refine (View.readCov_agree a.view L (Rect.unit (s := S1280x512) ![0, 0] ![N, 512] inb).toLoadRect (gAt g) h.agree (ix2 k r) ⟨?_, ?_⟩).trans ?_
  · exact (h.cover ⟨k.val, by omega⟩ r k.isLt).choose
  · have := (h.cover ⟨k.val, by omega⟩ r k.isLt).choose_spec
    refine ⟨this.1, ?_⟩
    rw [e]
    exact this.2
  · exact (congrArg (gAt g) e).trans rfl

/-- A load of rows of a rank-2 buffer. -/
theorem load_rows2 {sp : Space} {A C a c o₀ o₁ : ℕ} {e : EltTy} (M : Memref sig .tc sp ⟨2, ![A, C]⟩ e) (h : M.IsWhole)
    (inb : ∀ j : Fin 2, (![o₀, o₁] : Fin 2 → ℕ) j + (![a, c] : Fin 2 → ℕ) j ≤ (![A, C] : Fin 2 → ℕ) j)
    (x : Vec Ideal ⟨2, ![A, C]⟩ e) (i : Fin a) (j : Fin c) (h₀ : o₀ + i.val < A) (h₁ : o₁ + j.val < C) :
    M.view.readAt (Elt Ideal) (Rect.unit (s := ⟨2, ![A, C]⟩) ![o₀, o₁] ![a, c] inb).toLoadRect (h.unread x) (ix2 i j)
      = x (ix2 ⟨o₀ + i.val, h₀⟩ ⟨o₁ + j.val, h₁⟩) := by
  rw [View.readAt_eq_ld, h.read_unread]
  exact congrArg x (emb2 inb i j h₀ h₁)

/-- A load of rows of a rank-3 buffer of one slab. -/
theorem load_rows3 {sp : Space} {A C a c o₀ o₁ : ℕ} {e : EltTy} (M : Memref sig .tc sp ⟨3, ![1, A, C]⟩ e) (h : M.IsWhole)
    (inb : ∀ j : Fin 3, (![0, o₀, o₁] : Fin 3 → ℕ) j + (![1, a, c] : Fin 3 → ℕ) j ≤ (![1, A, C] : Fin 3 → ℕ) j)
    (x : Vec Ideal ⟨3, ![1, A, C]⟩ e) (i : Fin a) (j : Fin c) (h₀ : o₀ + i.val < A) (h₁ : o₁ + j.val < C) :
    M.view.readAt (Elt Ideal) (Rect.unit (s := ⟨3, ![1, A, C]⟩) ![0, o₀, o₁] ![1, a, c] inb).toLoadRect (h.unread x) (ix3 0 i j)
      = x (ix3 0 ⟨o₀ + i.val, h₀⟩ ⟨o₁ + j.val, h₁⟩) := by
  rw [View.readAt_eq_ld, h.read_unread]
  exact congrArg x (emb3 inb i j h₀ h₁)

/-- A tile's keys, loaded, with its keys' scales as any vector that holds them. -/
theorem tile_of (B : Ins) (o : ℕ) (ho : o ≤ 1024) (M : Memref sig .tc .vmem S1x1280x576 .fp8e4m3) (h : M.IsWhole)
    (inb : ∀ j, (![0, o, 0] : Fin 3 → ℕ) j + (![1, 256, 576] : Fin 3 → ℕ) j ≤ S1x1280x576.size j)
    {s : Vec Ideal S256x128 .f32} (hs : ∀ (k : Fin 256) (l : Fin 128), s (ix2 k l) = B.x7 (ix3 0 0 ⟨o + k.val, by omega⟩)) :
    TileOf B o ho (M.view.readAt (Elt Ideal) (Rect.unit (s := S1x1280x576) ![0, o, 0] ![1, 256, 576] inb).toLoadRect (h.unread B.x1)) s where
  hk k d := (load_rows3 M h inb B.x1 k d (by omega) (by omega)).trans (congrArg (fun z => B.x1 (ix3 0 _ z)) (Fin.ext (Nat.zero_add _)))
  hs := hs

/-- The keys' scales, loaded from the buffer that holds them along the lanes. -/
theorem scales_of (B : Ins) (o : ℕ) (ho : o ≤ 1024) (M : Memref sig .tc .vmem S1280x128 .f32) (h : M.IsWhole)
    (inb : ∀ j, (![o, 0] : Fin 2 → ℕ) j + (![256, 128] : Fin 2 → ℕ) j ≤ S1280x128.size j) (k : Fin 256) (l : Fin 128) :
    M.view.readAt (Elt Ideal) (Rect.unit (s := S1280x128) ![o, 0] ![256, 128] inb).toLoadRect (h.unread (kvrOf B)) (ix2 k l)
      = B.x7 (ix3 0 0 ⟨o + k.val, by omega⟩) :=
  load_rows2 M h inb (kvrOf B) k l (by omega) (by omega)

/-- The first keys' columns of the scaled keys. -/
theorem kt_rows (B : Ins) (N : ℕ) (hN : N ≤ 1280) (M : Memref sig .tc .vmem S576x1280 .bf16) (h : M.IsWhole)
    (inb : ∀ j, (![0, 0] : Fin 2 → ℕ) j + (![576, N] : Fin 2 → ℕ) j ≤ S576x1280.size j) (d : Fin 576) (k : Fin N) :
    M.view.readAt (Elt Ideal) (Rect.unit (s := S576x1280) ![0, 0] ![576, N] inb).toLoadRect (h.unread (ktOf B)) (ix2 d k)
      = B.kt d ⟨k.val, by omega⟩ :=
  (load_rows2 M h inb (ktOf B) d k (by omega) (by omega)).trans
    (congrArg₂ B.kt (Fin.ext (Nat.zero_add _)) (Fin.ext (Nat.zero_add _)))

/-- The first keys' rows of the latent gradient. -/
theorem dc_rows (x : Vec Ideal S1x1280x512 .f32) (N : ℕ) (hN : N ≤ 1280) (M : Memref sig .tc .vmem S1x1280x512 .f32) (h : M.IsWhole)
    (inb : ∀ j, (![0, 0, 0] : Fin 3 → ℕ) j + (![1, N, 512] : Fin 3 → ℕ) j ≤ S1x1280x512.size j) (k : Fin N) (c : Fin 512) :
    M.view.readAt (Elt Ideal) (Rect.unit (s := S1x1280x512) ![0, 0, 0] ![1, N, 512] inb).toLoadRect (h.unread x) (ix3 0 k c)
      = x (ix3 0 ⟨k.val, by omega⟩ c) :=
  (load_rows3 M h inb x k c (by omega) (by omega)).trans
    (congrArg₂ (fun a b => x (ix3 0 a b)) (Fin.ext (Nat.zero_add _)) (Fin.ext (Nat.zero_add _)))

/-- The first keys' columns of the rotary gradient. -/
theorem dkrt_rows (x : Vec Ideal S64x1280 .f32) (N : ℕ) (hN : N ≤ 1280) (M : Memref sig .tc .vmem S64x1280 .f32) (h : M.IsWhole)
    (inb : ∀ j, (![0, 0] : Fin 2 → ℕ) j + (![64, N] : Fin 2 → ℕ) j ≤ S64x1280.size j) (d : Fin 64) (k : Fin N) :
    M.view.readAt (Elt Ideal) (Rect.unit (s := S64x1280) ![0, 0] ![64, N] inb).toLoadRect (h.unread x) (ix2 d k)
      = x (ix2 d ⟨k.val, by omega⟩) :=
  (load_rows2 M h inb x d k (by omega) (by omega)).trans
    (congrArg₂ (fun a b => x (ix2 a b)) (Fin.ext (Nat.zero_add _)) (Fin.ext (Nat.zero_add _)))

/-- The blocks as a step loads them whole. -/
structure Loads (B : Ins) (q : Vec Ideal S1x512x576 .fp8e4m3) (ov : Vec Ideal S1x512x512 .bf16) (g : Vec Ideal S1x512x512 .fp8e5m2)
    (xl xq xd : Vec Ideal S1x1x1x512 .f32) : Prop where
  q : q = B.x0
  ov : ov = B.x2
  g : g = B.x3
  xl : xl = B.x4
  xq : xq = B.x5
  xd : xd = B.x6

section
variable {B : Ins} {q : Vec Ideal S1x512x576 .fp8e4m3} {ov : Vec Ideal S1x512x512 .bf16} {g : Vec Ideal S1x512x512 .fp8e5m2}
  {xl xq xd : Vec Ideal S1x1x1x512 .f32} {o : ℕ} {ho : o ≤ 1024} {kc : Vec Ideal S1x256x576 .fp8e4m3} {s : Vec Ideal S256x128 .f32}

/-- A tile wholly before the step's tokens. -/
theorem Loads.ds_open (H : Loads B q ov g xl xq xd) (T : TileOf B o ho kc s) (n : ℕ) (hn : o + 255 ≤ 16 * n) (k : Fin 256) (r : Fin 512) :
    shapeCast S256x512 (dsV (pV kc q s xq xl) kc g s ov xd) shapeCasts_S256x512_S256x512 (ix2 k r) = B.ds n ⟨o + k.val, by omega⟩ r := by
  obtain ⟨rfl, rfl, rfl, rfl, rfl, rfl⟩ := H
  rw [shapeCast_self]
  exact dsV_apply T n (pV_open T n hn) k r
theorem Loads.dsq_open (H : Loads B q ov g xl xq xd) (T : TileOf B o ho kc s) (n : ℕ) (hn : o + 255 ≤ 16 * n) (k : Fin 256) (r : Fin 512) :
    shapeCast S256x512 (dsqV (dsV (pV kc q s xq xl) kc g s ov xd) xq) shapeCasts_S256x512_S256x512 (ix2 k r) = B.dsq n ⟨o + k.val, by omega⟩ r := by
  obtain ⟨rfl, rfl, rfl, rfl, rfl, rfl⟩ := H
  rw [shapeCast_self]
  exact dsqV_apply T n (pV_open T n hn) k r
theorem Loads.pt_open (H : Loads B q ov g xl xq xd) (T : TileOf B o ho kc s) (n : ℕ) (hn : o + 255 ≤ 16 * n) (k : Fin 256) (r : Fin 512) :
    shapeCast S256x512 (ptV (pV kc q s xq xl) xd) shapeCasts_S256x512_S256x512 (ix2 k r) = B.pt n ⟨o + k.val, by omega⟩ r := by
  obtain ⟨rfl, rfl, rfl, rfl, rfl, rfl⟩ := H
  rw [shapeCast_self]
  exact ptV_apply (ho := ho) n (pV_open T n hn) k r

/-- The step's own tile, masked. -/
theorem Loads.ds_last (H : Loads B q ov g xl xq xd) (T : TileOf B o ho kc s) (n : ℕ) (hn : n < 80) (k : Fin 256) (r : Fin 512) :
    shapeCast S256x512 (dsV (maskV (BitVec.ofNat 32 o) (BitVec.ofNat 32 n) (pV kc q s xq xl)) kc g s ov xd) shapeCasts_S256x512_S256x512 (ix2 k r)
      = B.ds n ⟨o + k.val, by omega⟩ r := by
  obtain ⟨rfl, rfl, rfl, rfl, rfl, rfl⟩ := H
  rw [shapeCast_self]
  exact dsV_apply T n (maskV_apply T n hn) k r
theorem Loads.dsq_last (H : Loads B q ov g xl xq xd) (T : TileOf B o ho kc s) (n : ℕ) (hn : n < 80) (k : Fin 256) (r : Fin 512) :
    shapeCast S256x512 (dsqV (dsV (maskV (BitVec.ofNat 32 o) (BitVec.ofNat 32 n) (pV kc q s xq xl)) kc g s ov xd) xq) shapeCasts_S256x512_S256x512 (ix2 k r)
      = B.dsq n ⟨o + k.val, by omega⟩ r := by
  obtain ⟨rfl, rfl, rfl, rfl, rfl, rfl⟩ := H
  rw [shapeCast_self]
  exact dsqV_apply T n (maskV_apply T n hn) k r
theorem Loads.pt_last (H : Loads B q ov g xl xq xd) (T : TileOf B o ho kc s) (n : ℕ) (hn : n < 80) (k : Fin 256) (r : Fin 512) :
    shapeCast S256x512 (ptV (maskV (BitVec.ofNat 32 o) (BitVec.ofNat 32 n) (pV kc q s xq xl)) xd) shapeCasts_S256x512_S256x512 (ix2 k r)
      = B.pt n ⟨o + k.val, by omega⟩ r := by
  obtain ⟨rfl, rfl, rfl, rfl, rfl, rfl⟩ := H
  rw [shapeCast_self]
  exact ptV_apply (ho := ho) n (maskV_apply T n hn) k r

end

/-! ## Keys after every token of the step add nothing -/

section
variable (B : Ins) (n : ℕ) (k : Fin 1280)

theorem p_zero (h : 16 * n + 15 < k.val) (r : Fin 512) : B.p n k r = 0 := by
  rw [Ins.p, if_neg (by have := r.isLt; omega)]
theorem ds_zero (h : 16 * n + 15 < k.val) (r : Fin 512) : B.ds n k r = 0 := by rw [Ins.ds, p_zero B n k h, zero_mul]
theorem dsq_zero (h : 16 * n + 15 < k.val) (r : Fin 512) : B.dsq n k r = 0 := by rw [Ins.dsq, ds_zero B n k h, zero_mul]
theorem pt_zero (h : 16 * n + 15 < k.val) (r : Fin 512) : B.pt n k r = 0 := by rw [Ins.pt, p_zero B n k h, zero_mul]
theorem dcAdd_zero (h : 16 * n + 15 < k.val) (c : Fin 512) : B.dcAdd n k c = 0 := by
  simp only [Ins.dcAdd, dsq_zero B n k h, pt_zero B n k h, zero_mul, Finset.sum_const_zero, add_zero]
theorem dkrAdd_zero (h : 16 * n + 15 < k.val) (d : Fin 64) : B.dkrAdd n d k = 0 := by
  simp only [Ins.dkrAdd, dsq_zero B n k h, mul_zero, Finset.sum_const_zero]

end

/-- The first `N` keys' rows of the latent gradient written over what it held. -/
theorem dc_over (B : Ins) (n N : ℕ) (hN : N ≤ 1280) (hn : 16 * n + 15 < N) (a : Memref sig .tc .vmem S1x1280x512 .f32)
    (f : a.view.ty.Contents (Elt Ideal)) (x9 : Vec Ideal S1x1280x512 .f32) (inb : ∀ j, (![0, 0, 0] : Fin 3 → ℕ) j + (![1, N, 512] : Fin 3 → ℕ) j ≤ S1x1280x512.size j)
    (w : Vec Ideal ⟨3, ![1, N, 512]⟩ .f32) (hf : a.view.read (Elt Ideal) f = x9)
    (hw : ∀ (k : Fin N) (c : Fin 512), w (ix3 0 k c) = x9 (ix3 0 ⟨k.val, by omega⟩ c) + B.dcAdd n ⟨k.val, by omega⟩ c) :
    a.view.read (Elt Ideal) (a.view.writes (Elt Ideal) f [⟨Rect.unit ![0, 0, 0] ![1, N, 512] inb, w⟩]) = dcNext B n False x9 := by
  funext y
  refine View.read_writes_agree a.view _ (dcNext B n False x9) y _ ?_ ?_
  · refine List.forall_mem_cons.mpr ⟨fun x => ?_, fun _ h => absurd h List.not_mem_nil⟩
    obtain ⟨z, k, c, rfl⟩ : ∃ (z : Fin 1) (k : Fin N) (c : Fin 512), x = ix3 z k c := ⟨x 0, x 1, x 2, eq_ix3 x⟩
    obtain rfl : z = 0 := Subsingleton.elim _ _
    refine (hw k c).trans ?_
    dsimp only
    rw [emb3 inb k c (by omega) (by omega)]
    have e1 : (⟨0 + k.val, by omega⟩ : Fin 1280) = ⟨k.val, by omega⟩ := Fin.ext (Nat.zero_add _)
    have e2 : (⟨0 + c.val, by omega⟩ : Fin 512) = c := Fin.ext (Nat.zero_add _)
    rw [e1, e2]
    simp only [dcNext, if_false]
    rfl
  · intro h
    obtain ⟨z, k, c, rfl⟩ : ∃ (z : Fin 1) (k : Fin 1280) (c : Fin 512), y = ix3 z k c := ⟨y 0, y 1, y 2, eq_ix3 y⟩
    obtain rfl : z = 0 := Subsingleton.elim _ _
    have hk : N ≤ k.val := by
      by_contra hk
      exact h _ List.mem_cons_self (mem3 inb k c (by omega) (by omega) (by omega) (by omega))
    rw [hf]
    show x9 _ = (if False then (0 : EReal) else x9 _) + B.dcAdd n k c
    rw [dcAdd_zero B n k (by omega), if_neg id, add_zero]

/-- The latent gradient after a step past the first. -/
theorem dc_piece (B : Ins) (n N : ℕ) (hN : N ≤ 1280) (hn : 16 * n + 15 < N) (a : Memref sig .tc .vmem S1x1280x512 .f32) (ha : a.IsWhole)
    (x9 : Vec Ideal S1x1280x512 .f32) (inb : ∀ j, (![0, 0, 0] : Fin 3 → ℕ) j + (![1, N, 512] : Fin 3 → ℕ) j ≤ S1x1280x512.size j)
    (w : Vec Ideal ⟨3, ![1, N, 512]⟩ .f32)
    (hw : ∀ (k : Fin N) (c : Fin 512), w (ix3 0 k c) = x9 (ix3 0 ⟨k.val, by omega⟩ c) + B.dcAdd n ⟨k.val, by omega⟩ c) :
    a.view.read (Elt Ideal) (a.view.writes (Elt Ideal) (ha.unread x9) [⟨Rect.unit ![0, 0, 0] ![1, N, 512] inb, w⟩]) = dcNext B n False x9 :=
  dc_over B n N hN hn a (ha.unread x9) x9 inb w (ha.read_unread x9) hw

/-- The latent gradient after the first step: zeros, then the first `N` keys' rows. -/
theorem dc_first (B : Ins) (n N : ℕ) (hN : N ≤ 1280) (hn : 16 * n + 15 < N) (a : Memref sig .tc .vmem S1x1280x512 .f32)
    (f : a.view.ty.Contents (Elt Ideal)) (x9 z : Vec Ideal S1x1280x512 .f32) (hz : ∀ y, z y = 0)
    (inb : ∀ j, (![0, 0, 0] : Fin 3 → ℕ) j + (![1, N, 512] : Fin 3 → ℕ) j ≤ S1x1280x512.size j)
    (inbW : ∀ j, (![0, 0, 0] : Fin 3 → ℕ) j + (![1, 1280, 512] : Fin 3 → ℕ) j ≤ S1x1280x512.size j)
    (w : Vec Ideal ⟨3, ![1, N, 512]⟩ .f32)
    (hw : ∀ (k : Fin N) (c : Fin 512), w (ix3 0 k c) = 0 + B.dcAdd n ⟨k.val, by omega⟩ c) :
    a.view.read (Elt Ideal) (a.view.writes (Elt Ideal) f [⟨Rect.unit ![0, 0, 0] ![1, N, 512] inb, w⟩, ⟨Rect.unit ![0, 0, 0] ![1, 1280, 512] inbW, z⟩])
      = dcNext B n True x9 := by
  have hf : a.view.read (Elt Ideal) (a.view.writes (Elt Ideal) f [⟨Rect.unit ![0, 0, 0] ![1, 1280, 512] inbW, z⟩]) = fun _ => (0 : EReal) := by
    funext y
    refine View.read_writes_agree a.view f (fun _ => (0 : EReal)) y [⟨Rect.unit ![0, 0, 0] ![1, 1280, 512] inbW, z⟩]
      (List.forall_mem_cons.mpr ⟨fun x => hz _, fun _ h => absurd h List.not_mem_nil⟩) fun hn => ?_
    obtain ⟨s, k, c, rfl⟩ : ∃ (s : Fin 1) (k : Fin 1280) (c : Fin 512), y = ix3 s k c := ⟨y 0, y 1, y 2, eq_ix3 y⟩
    obtain rfl : s = 0 := Subsingleton.elim _ _
    exact (hn _ List.mem_cons_self (mem3 inbW k c (by omega) (by omega) (by omega) (by omega))).elim
  have e : ∀ p q : View.Piece (Elt Ideal) S1x1280x512 .f32, a.view.writes (Elt Ideal) f [p, q] = a.view.writes (Elt Ideal) (a.view.writes (Elt Ideal) f [q]) [p] :=
    fun p q => by rw [← View.writes_append]; rfl
  rw [e, dc_over B n N hN hn a _ _ inb w hf hw]
  funext y
  simp only [dcNext, if_false, if_true]

/-- The first `N` keys' columns of the rotary gradient's accumulator written over what it held. -/
theorem dkrt_over (B : Ins) (n N : ℕ) (hN : N ≤ 1280) (hn : 16 * n + 15 < N) (a : Memref sig .tc .vmem S64x1280 .f32)
    (f : a.view.ty.Contents (Elt Ideal)) (x : Vec Ideal S64x1280 .f32) (inb : ∀ j, (![0, 0] : Fin 2 → ℕ) j + (![64, N] : Fin 2 → ℕ) j ≤ S64x1280.size j)
    (w : Vec Ideal ⟨2, ![64, N]⟩ .f32) (hf : a.view.read (Elt Ideal) f = x)
    (hw : ∀ (d : Fin 64) (k : Fin N), w (ix2 d k) = x (ix2 d ⟨k.val, by omega⟩) + B.dkrAdd n d ⟨k.val, by omega⟩) :
    a.view.read (Elt Ideal) (a.view.writes (Elt Ideal) f [⟨Rect.unit ![0, 0] ![64, N] inb, w⟩]) = dkrtNext B n False x := by
  funext y
  refine View.read_writes_agree a.view _ (dkrtNext B n False x) y _ ?_ ?_
  · refine List.forall_mem_cons.mpr ⟨fun z => ?_, fun _ h => absurd h List.not_mem_nil⟩
    obtain ⟨d, k, rfl⟩ : ∃ (d : Fin 64) (k : Fin N), z = ix2 d k := ⟨z 0, z 1, eq_ix2 z⟩
    refine (hw d k).trans ?_
    dsimp only
    rw [emb2 inb d k (by omega) (by omega)]
    have e1 : (⟨0 + k.val, by omega⟩ : Fin 1280) = ⟨k.val, by omega⟩ := Fin.ext (Nat.zero_add _)
    have e2 : (⟨0 + d.val, by omega⟩ : Fin 64) = d := Fin.ext (Nat.zero_add _)
    rw [e1, e2]
    simp only [dkrtNext, if_false]
    rfl
  · intro h
    obtain ⟨d, k, rfl⟩ : ∃ (d : Fin 64) (k : Fin 1280), y = ix2 d k := ⟨y 0, y 1, eq_ix2 y⟩
    have hk : N ≤ k.val := by
      by_contra hk
      exact h _ List.mem_cons_self (mem2 inb d k (by omega) (by omega) (by omega) (by omega))
    rw [hf]
    show x _ = (if False then (0 : EReal) else x _) + B.dkrAdd n d k
    rw [dkrAdd_zero B n k (by omega), if_neg id, add_zero]

/-- The rotary gradient's accumulator after a step past the first. -/
theorem dkrt_piece (B : Ins) (n N : ℕ) (hN : N ≤ 1280) (hn : 16 * n + 15 < N) (a : Memref sig .tc .vmem S64x1280 .f32) (ha : a.IsWhole)
    (x : Vec Ideal S64x1280 .f32) (inb : ∀ j, (![0, 0] : Fin 2 → ℕ) j + (![64, N] : Fin 2 → ℕ) j ≤ S64x1280.size j)
    (w : Vec Ideal ⟨2, ![64, N]⟩ .f32)
    (hw : ∀ (d : Fin 64) (k : Fin N), w (ix2 d k) = x (ix2 d ⟨k.val, by omega⟩) + B.dkrAdd n d ⟨k.val, by omega⟩) :
    a.view.read (Elt Ideal) (a.view.writes (Elt Ideal) (ha.unread x) [⟨Rect.unit ![0, 0] ![64, N] inb, w⟩]) = dkrtNext B n False x :=
  dkrt_over B n N hN hn a (ha.unread x) x inb w (ha.read_unread x) hw

/-- The rotary gradient's accumulator after the first step: zeros, then the first `N` keys' columns. -/
theorem dkrt_first (B : Ins) (n N : ℕ) (hN : N ≤ 1280) (hn : 16 * n + 15 < N) (a : Memref sig .tc .vmem S64x1280 .f32)
    (f : a.view.ty.Contents (Elt Ideal)) (x z : Vec Ideal S64x1280 .f32) (hz : ∀ y, z y = 0)
    (inb : ∀ j, (![0, 0] : Fin 2 → ℕ) j + (![64, N] : Fin 2 → ℕ) j ≤ S64x1280.size j)
    (inbW : ∀ j, (![0, 0] : Fin 2 → ℕ) j + (![64, 1280] : Fin 2 → ℕ) j ≤ S64x1280.size j)
    (w : Vec Ideal ⟨2, ![64, N]⟩ .f32)
    (hw : ∀ (d : Fin 64) (k : Fin N), w (ix2 d k) = 0 + B.dkrAdd n d ⟨k.val, by omega⟩) :
    a.view.read (Elt Ideal) (a.view.writes (Elt Ideal) f [⟨Rect.unit ![0, 0] ![64, N] inb, w⟩, ⟨Rect.unit ![0, 0] ![64, 1280] inbW, z⟩])
      = dkrtNext B n True x := by
  have hf : a.view.read (Elt Ideal) (a.view.writes (Elt Ideal) f [⟨Rect.unit ![0, 0] ![64, 1280] inbW, z⟩]) = fun _ => (0 : EReal) := by
    funext y
    refine View.read_writes_agree a.view f (fun _ => (0 : EReal)) y [⟨Rect.unit ![0, 0] ![64, 1280] inbW, z⟩]
      (List.forall_mem_cons.mpr ⟨fun x => hz _, fun _ h => absurd h List.not_mem_nil⟩) fun hn => ?_
    obtain ⟨d, k, rfl⟩ : ∃ (d : Fin 64) (k : Fin 1280), y = ix2 d k := ⟨y 0, y 1, eq_ix2 y⟩
    exact (hn _ List.mem_cons_self (mem2 inbW d k (by omega) (by omega) (by omega) (by omega))).elim
  have e : ∀ p q : View.Piece (Elt Ideal) S64x1280 .f32, a.view.writes (Elt Ideal) f [p, q] = a.view.writes (Elt Ideal) (a.view.writes (Elt Ideal) f [q]) [p] :=
    fun p q => by rw [← View.writes_append]; rfl
  rw [e, dkrt_over B n N hN hn a _ _ inb w hf hw]
  funext y
  simp only [dkrtNext, if_false, if_true]

end Cert.KernelIdeal.Hand
-- ==== Proof.Val.Words.lean ====
/- The body's products over the keys it has reached, for each number of keys. -/
module

public import proofs.«01_k».proof.Proof.Val.Tiles

@[expose] public section

set_option maxRecDepth 16384

noncomputable section

namespace Cert.KernelIdeal.Hand

open Cert.KernelIdeal.Gen
open Idealize.ShloMosaic Idealize.ShloMosaic.TcCoe

variable {B : Ins} {n : ℕ} {q : Vec Ideal S1x512x576 .fp8e4m3} {g : Vec Ideal S1x512x512 .fp8e5m2}

/-- The rotary part of the queries, transposed. -/
abbrev rotV (q : Vec Ideal S1x512x576 .fp8e4m3) : FVec Ideal S64x512 .bf16 :=
  transpose S64x512 [1, 0] (extf .bf16 (extractStridedSlice S512x64 ![0, 512] (shapeCast S512x576 q shapeCasts_S1x512x576_S512x576 : FVec Ideal S512x576 .fp8e4m3) slices_S512x576_o0_512_S512x64 : FVec Ideal S512x64 .fp8e4m3) bitsLt_fp8e4m3_bf16 : FVec Ideal S512x64 .bf16) transposes_S512x64_p1_0_S64x512
/-- The latent part of the queries. -/
abbrev latV (q : Vec Ideal S1x512x576 .fp8e4m3) : FVec Ideal S512x512 .fp8e4m3 :=
  extractStridedSlice S512x512 ![0, 0] (shapeCast S512x576 q shapeCasts_S1x512x576_S512x576 : FVec Ideal S512x576 .fp8e4m3) slices_S512x576_o0_0_S512x512
/-- The output's gradient without its slab. -/
abbrev gradV (g : Vec Ideal S1x512x512 .fp8e5m2) : FVec Ideal S512x512 .fp8e5m2 := shapeCast S512x512 g shapeCasts_S1x512x512_S512x512

/-! ## The first 256 keys -/

section
variable {D P S : Vec Ideal S256x512 .bf16}

theorem dc256 {cur : Vec Ideal S1x256x512 .f32} {z : EReal} (k : Fin 256) (c : Fin 512) (hc : cur (ix3 0 k c) = z) (hq : q = B.x0) (hg : g = B.x3)
    (hD : ∀ (k : Fin 256) (r : Fin 512), D (ix2 k r) = B.dsq n ⟨k.val, by omega⟩ r)
    (hP : ∀ (k : Fin 256) (r : Fin 512), P (ix2 k r) = B.pt n ⟨k.val, by omega⟩ r) :
    (shapeCast S1x256x512 (addf (shapeCast S256x512 cur shapeCasts_S1x256x512_S256x512 : FVec Ideal S256x512 .f32)
      (addf (matmul dot_S256x512_S512x512_S256x512_1_0_0_1_n_n none (show FVec Ideal S256x512 .bf16 from D) (latV q) (constant S256x512 .f32 0x00000000#32))
        (matmul dot_S256x512_S512x512_S256x512_1_0_0_1_n_n none (show FVec Ideal S256x512 .bf16 from P) (gradV g) (constant S256x512 .f32 0x00000000#32)))) shapeCasts_S256x512_S1x256x512
      : FVec Ideal S1x256x512 .f32) (ix3 0 k c) = z + B.dcAdd n ⟨k.val, by omega⟩ c := by
  subst hq hg
  pointwise [hc, hD, hP, Ins.dcAdd]

theorem dkrt256 {cur : Vec Ideal S64x256 .f32} {z : EReal} (d : Fin 64) (k : Fin 256) (hc : cur (ix2 d k) = z) (hq : q = B.x0)
    (hD : ∀ (k : Fin 256) (r : Fin 512), D (ix2 k r) = B.dsq n ⟨k.val, by omega⟩ r) :
    (shapeCast S64x256 (addf (show FVec Ideal S64x256 .f32 from cur)
      (matmul dot_S64x512_S256x512_S64x256_1_1_0_0_n_n none (rotV q) (show FVec Ideal S256x512 .bf16 from D) (constant S64x256 .f32 0x00000000#32))) shapeCasts_S64x256_S64x256
      : FVec Ideal S64x256 .f32) (ix2 d k) = z + B.dkrAdd n d ⟨k.val, by omega⟩ := by
  subst hq
  pointwise [hc, hD, Ins.dkrAdd]

theorem dq256 {K : Vec Ideal S576x256 .bf16} (hn : 16 * n + 15 < 256)
    (hK : ∀ (d : Fin 576) (k : Fin 256), K (ix2 d k) = B.kt d ⟨k.val, by omega⟩)
    (hS : ∀ (k : Fin 256) (r : Fin 512), S (ix2 k r) = B.ds n ⟨k.val, by omega⟩ r) :
    (fun y => (truncf .bf16 (matmul dot_S576x256_S256x512_S576x512_1_0_0_1_n_n none (show FVec Ideal S576x256 .bf16 from K) (show FVec Ideal S256x512 .bf16 from S)
      (constant S576x512 .f32 0x00000000#32) : FVec Ideal S576x512 .f32) bitsLt_bf16_f32 : FVec Ideal S576x512 .bf16) (ix2 (y 2) (y 1))) = dqOf B n := by
  funext y
  obtain ⟨z, r, d, rfl⟩ : ∃ (z : Fin 1) (r : Fin 512) (d : Fin 576), y = ix3 z r d := ⟨y 0, y 1, y 2, eq_ix3 y⟩
  refine Eq.trans ?_ (sum_first (by omega : 256 ≤ 1280) (fun k => B.kt d k * B.ds n k r) fun k hk => by rw [ds_zero B n k (by omega), mul_zero])
  pointwise [hK, hS]

end

/-! ## The first 512 keys -/

section
variable {D P S : Vec Ideal S512x512 .bf16}

theorem dc512 {cur : Vec Ideal S1x512x512 .f32} {z : EReal} (k : Fin 512) (c : Fin 512) (hc : cur (ix3 0 k c) = z) (hq : q = B.x0) (hg : g = B.x3)
    (hD : ∀ (k : Fin 512) (r : Fin 512), D (ix2 k r) = B.dsq n ⟨k.val, by omega⟩ r)
    (hP : ∀ (k : Fin 512) (r : Fin 512), P (ix2 k r) = B.pt n ⟨k.val, by omega⟩ r) :
    (shapeCast S1x512x512 (addf (shapeCast S512x512 cur shapeCasts_S1x512x512_S512x512 : FVec Ideal S512x512 .f32)
      (addf (matmul dot_S512x512_S512x512_S512x512_1_0_0_1_n_n none (show FVec Ideal S512x512 .bf16 from D) (latV q) (constant S512x512 .f32 0x00000000#32))
        (matmul dot_S512x512_S512x512_S512x512_1_0_0_1_n_n none (show FVec Ideal S512x512 .bf16 from P) (gradV g) (constant S512x512 .f32 0x00000000#32)))) shapeCasts_S512x512_S1x512x512
      : FVec Ideal S1x512x512 .f32) (ix3 0 k c) = z + B.dcAdd n ⟨k.val, by omega⟩ c := by
  subst hq hg
  pointwise [hc, hD, hP, Ins.dcAdd]

theorem dkrt512 {cur : Vec Ideal S64x512 .f32} {z : EReal} (d : Fin 64) (k : Fin 512) (hc : cur (ix2 d k) = z) (hq : q = B.x0)
    (hD : ∀ (k : Fin 512) (r : Fin 512), D (ix2 k r) = B.dsq n ⟨k.val, by omega⟩ r) :
    (shapeCast S64x512 (addf (show FVec Ideal S64x512 .f32 from cur)
      (matmul dot_S64x512_S512x512_S64x512_1_1_0_0_n_n none (rotV q) (show FVec Ideal S512x512 .bf16 from D) (constant S64x512 .f32 0x00000000#32))) shapeCasts_S64x512_S64x512
      : FVec Ideal S64x512 .f32) (ix2 d k) = z + B.dkrAdd n d ⟨k.val, by omega⟩ := by
  subst hq
  pointwise [hc, hD, Ins.dkrAdd]

theorem dq512 {K : Vec Ideal S576x512 .bf16} (hn : 16 * n + 15 < 512)
    (hK : ∀ (d : Fin 576) (k : Fin 512), K (ix2 d k) = B.kt d ⟨k.val, by omega⟩)
    (hS : ∀ (k : Fin 512) (r : Fin 512), S (ix2 k r) = B.ds n ⟨k.val, by omega⟩ r) :
    (fun y => (truncf .bf16 (matmul dot_S576x512_S512x512_S576x512_1_0_0_1_n_n none (show FVec Ideal S576x512 .bf16 from K) (show FVec Ideal S512x512 .bf16 from S)
      (constant S576x512 .f32 0x00000000#32) : FVec Ideal S576x512 .f32) bitsLt_bf16_f32 : FVec Ideal S576x512 .bf16) (ix2 (y 2) (y 1))) = dqOf B n := by
  funext y
  obtain ⟨z, r, d, rfl⟩ : ∃ (z : Fin 1) (r : Fin 512) (d : Fin 576), y = ix3 z r d := ⟨y 0, y 1, y 2, eq_ix3 y⟩
  refine Eq.trans ?_ (sum_first (by omega : 512 ≤ 1280) (fun k => B.kt d k * B.ds n k r) fun k hk => by rw [ds_zero B n k (by omega), mul_zero])
  pointwise [hK, hS]

end

/-! ## The first 768 keys -/

section
variable {D P S : Vec Ideal S768x512 .bf16}

theorem dc768 {cur : Vec Ideal S1x768x512 .f32} {z : EReal} (k : Fin 768) (c : Fin 512) (hc : cur (ix3 0 k c) = z) (hq : q = B.x0) (hg : g = B.x3)
    (hD : ∀ (k : Fin 768) (r : Fin 512), D (ix2 k r) = B.dsq n ⟨k.val, by omega⟩ r)
    (hP : ∀ (k : Fin 768) (r : Fin 512), P (ix2 k r) = B.pt n ⟨k.val, by omega⟩ r) :
    (shapeCast S1x768x512 (addf (shapeCast S768x512 cur shapeCasts_S1x768x512_S768x512 : FVec Ideal S768x512 .f32)
      (addf (matmul dot_S768x512_S512x512_S768x512_1_0_0_1_n_n none (show FVec Ideal S768x512 .bf16 from D) (latV q) (constant S768x512 .f32 0x00000000#32))
        (matmul dot_S768x512_S512x512_S768x512_1_0_0_1_n_n none (show FVec Ideal S768x512 .bf16 from P) (gradV g) (constant S768x512 .f32 0x00000000#32)))) shapeCasts_S768x512_S1x768x512
      : FVec Ideal S1x768x512 .f32) (ix3 0 k c) = z + B.dcAdd n ⟨k.val, by omega⟩ c := by
  subst hq hg
  pointwise [hc, hD, hP, Ins.dcAdd]

theorem dkrt768 {cur : Vec Ideal S64x768 .f32} {z : EReal} (d : Fin 64) (k : Fin 768) (hc : cur (ix2 d k) = z) (hq : q = B.x0)
    (hD : ∀ (k : Fin 768) (r : Fin 512), D (ix2 k r) = B.dsq n ⟨k.val, by omega⟩ r) :
    (shapeCast S64x768 (addf (show FVec Ideal S64x768 .f32 from cur)
      (matmul dot_S64x512_S768x512_S64x768_1_1_0_0_n_n none (rotV q) (show FVec Ideal S768x512 .bf16 from D) (constant S64x768 .f32 0x00000000#32))) shapeCasts_S64x768_S64x768
      : FVec Ideal S64x768 .f32) (ix2 d k) = z + B.dkrAdd n d ⟨k.val, by omega⟩ := by
  subst hq
  pointwise [hc, hD, Ins.dkrAdd]

theorem dq768 {K : Vec Ideal S576x768 .bf16} (hn : 16 * n + 15 < 768)
    (hK : ∀ (d : Fin 576) (k : Fin 768), K (ix2 d k) = B.kt d ⟨k.val, by omega⟩)
    (hS : ∀ (k : Fin 768) (r : Fin 512), S (ix2 k r) = B.ds n ⟨k.val, by omega⟩ r) :
    (fun y => (truncf .bf16 (matmul dot_S576x768_S768x512_S576x512_1_0_0_1_n_n none (show FVec Ideal S576x768 .bf16 from K) (show FVec Ideal S768x512 .bf16 from S)
      (constant S576x512 .f32 0x00000000#32) : FVec Ideal S576x512 .f32) bitsLt_bf16_f32 : FVec Ideal S576x512 .bf16) (ix2 (y 2) (y 1))) = dqOf B n := by
  funext y
  obtain ⟨z, r, d, rfl⟩ : ∃ (z : Fin 1) (r : Fin 512) (d : Fin 576), y = ix3 z r d := ⟨y 0, y 1, y 2, eq_ix3 y⟩
  refine Eq.trans ?_ (sum_first (by omega : 768 ≤ 1280) (fun k => B.kt d k * B.ds n k r) fun k hk => by rw [ds_zero B n k (by omega), mul_zero])
  pointwise [hK, hS]

end

/-! ## The first 1024 keys -/

section
variable {D P S : Vec Ideal S1024x512 .bf16}

theorem dc1024 {cur : Vec Ideal S1x1024x512 .f32} {z : EReal} (k : Fin 1024) (c : Fin 512) (hc : cur (ix3 0 k c) = z) (hq : q = B.x0) (hg : g = B.x3)
    (hD : ∀ (k : Fin 1024) (r : Fin 512), D (ix2 k r) = B.dsq n ⟨k.val, by omega⟩ r)
    (hP : ∀ (k : Fin 1024) (r : Fin 512), P (ix2 k r) = B.pt n ⟨k.val, by omega⟩ r) :
    (shapeCast S1x1024x512 (addf (shapeCast S1024x512 cur shapeCasts_S1x1024x512_S1024x512 : FVec Ideal S1024x512 .f32)
      (addf (matmul dot_S1024x512_S512x512_S1024x512_1_0_0_1_n_n none (show FVec Ideal S1024x512 .bf16 from D) (latV q) (constant S1024x512 .f32 0x00000000#32))
        (matmul dot_S1024x512_S512x512_S1024x512_1_0_0_1_n_n none (show FVec Ideal S1024x512 .bf16 from P) (gradV g) (constant S1024x512 .f32 0x00000000#32)))) shapeCasts_S1024x512_S1x1024x512
      : FVec Ideal S1x1024x512 .f32) (ix3 0 k c) = z + B.dcAdd n ⟨k.val, by omega⟩ c := by
  subst hq hg
  pointwise [hc, hD, hP, Ins.dcAdd]

theorem dkrt1024 {cur : Vec Ideal S64x1024 .f32} {z : EReal} (d : Fin 64) (k : Fin 1024) (hc : cur (ix2 d k) = z) (hq : q = B.x0)
    (hD : ∀ (k : Fin 1024) (r : Fin 512), D (ix2 k r) = B.dsq n ⟨k.val, by omega⟩ r) :
    (shapeCast S64x1024 (addf (show FVec Ideal S64x1024 .f32 from cur)
      (matmul dot_S64x512_S1024x512_S64x1024_1_1_0_0_n_n none (rotV q) (show FVec Ideal S1024x512 .bf16 from D) (constant S64x1024 .f32 0x00000000#32))) shapeCasts_S64x1024_S64x1024
      : FVec Ideal S64x1024 .f32) (ix2 d k) = z + B.dkrAdd n d ⟨k.val, by omega⟩ := by
  subst hq
  pointwise [hc, hD, Ins.dkrAdd]

theorem dq1024 {K : Vec Ideal S576x1024 .bf16} (hn : 16 * n + 15 < 1024)
    (hK : ∀ (d : Fin 576) (k : Fin 1024), K (ix2 d k) = B.kt d ⟨k.val, by omega⟩)
    (hS : ∀ (k : Fin 1024) (r : Fin 512), S (ix2 k r) = B.ds n ⟨k.val, by omega⟩ r) :
    (fun y => (truncf .bf16 (matmul dot_S576x1024_S1024x512_S576x512_1_0_0_1_n_n none (show FVec Ideal S576x1024 .bf16 from K) (show FVec Ideal S1024x512 .bf16 from S)
      (constant S576x512 .f32 0x00000000#32) : FVec Ideal S576x512 .f32) bitsLt_bf16_f32 : FVec Ideal S576x512 .bf16) (ix2 (y 2) (y 1))) = dqOf B n := by
  funext y
  obtain ⟨z, r, d, rfl⟩ : ∃ (z : Fin 1) (r : Fin 512) (d : Fin 576), y = ix3 z r d := ⟨y 0, y 1, y 2, eq_ix3 y⟩
  refine Eq.trans ?_ (sum_first (by omega : 1024 ≤ 1280) (fun k => B.kt d k * B.ds n k r) fun k hk => by rw [ds_zero B n k (by omega), mul_zero])
  pointwise [hK, hS]

end

/-! ## The first 1280 keys -/

section
variable {D P S : Vec Ideal S1280x512 .bf16}

theorem dc1280 {cur : Vec Ideal S1x1280x512 .f32} {z : EReal} (k : Fin 1280) (c : Fin 512) (hc : cur (ix3 0 k c) = z) (hq : q = B.x0) (hg : g = B.x3)
    (hD : ∀ (k : Fin 1280) (r : Fin 512), D (ix2 k r) = B.dsq n ⟨k.val, by omega⟩ r)
    (hP : ∀ (k : Fin 1280) (r : Fin 512), P (ix2 k r) = B.pt n ⟨k.val, by omega⟩ r) :
    (shapeCast S1x1280x512 (addf (shapeCast S1280x512 cur shapeCasts_S1x1280x512_S1280x512 : FVec Ideal S1280x512 .f32)
      (addf (matmul dot_S1280x512_S512x512_S1280x512_1_0_0_1_n_n none (show FVec Ideal S1280x512 .bf16 from D) (latV q) (constant S1280x512 .f32 0x00000000#32))
        (matmul dot_S1280x512_S512x512_S1280x512_1_0_0_1_n_n none (show FVec Ideal S1280x512 .bf16 from P) (gradV g) (constant S1280x512 .f32 0x00000000#32)))) shapeCasts_S1280x512_S1x1280x512
      : FVec Ideal S1x1280x512 .f32) (ix3 0 k c) = z + B.dcAdd n ⟨k.val, by omega⟩ c := by
  subst hq hg
  pointwise [hc, hD, hP, Ins.dcAdd]

theorem dkrt1280 {cur : Vec Ideal S64x1280 .f32} {z : EReal} (d : Fin 64) (k : Fin 1280) (hc : cur (ix2 d k) = z) (hq : q = B.x0)
    (hD : ∀ (k : Fin 1280) (r : Fin 512), D (ix2 k r) = B.dsq n ⟨k.val, by omega⟩ r) :
    (shapeCast S64x1280 (addf (show FVec Ideal S64x1280 .f32 from cur)
      (matmul dot_S64x512_S1280x512_S64x1280_1_1_0_0_n_n none (rotV q) (show FVec Ideal S1280x512 .bf16 from D) (constant S64x1280 .f32 0x00000000#32))) shapeCasts_S64x1280_S64x1280
      : FVec Ideal S64x1280 .f32) (ix2 d k) = z + B.dkrAdd n d ⟨k.val, by omega⟩ := by
  subst hq
  pointwise [hc, hD, Ins.dkrAdd]

theorem dq1280 {K : Vec Ideal S576x1280 .bf16} (hn : 16 * n + 15 < 1280)
    (hK : ∀ (d : Fin 576) (k : Fin 1280), K (ix2 d k) = B.kt d ⟨k.val, by omega⟩)
    (hS : ∀ (k : Fin 1280) (r : Fin 512), S (ix2 k r) = B.ds n ⟨k.val, by omega⟩ r) :
    (fun y => (truncf .bf16 (matmul dot_S576x1280_S1280x512_S576x512_1_0_0_1_n_n none (show FVec Ideal S576x1280 .bf16 from K) (show FVec Ideal S1280x512 .bf16 from S)
      (constant S576x512 .f32 0x00000000#32) : FVec Ideal S576x512 .f32) bitsLt_bf16_f32 : FVec Ideal S576x512 .bf16) (ix2 (y 2) (y 1))) = dqOf B n := by
  funext y
  obtain ⟨z, r, d, rfl⟩ : ∃ (z : Fin 1) (r : Fin 512) (d : Fin 576), y = ix3 z r d := ⟨y 0, y 1, y 2, eq_ix3 y⟩
  refine Eq.trans ?_ (sum_first (by omega : 1280 ≤ 1280) (fun k => B.kt d k * B.ds n k r) fun k hk => by rw [ds_zero B n k (by omega), mul_zero])
  pointwise [hK, hS]

end

end Cert.KernelIdeal.Hand
-- ==== Proof.Val.Whole.lean ====
/- What the first and the last step of a batch do besides: the keys laid out with their scales, the accumulators
   filled with zeros, the rotary gradient turned and stored. -/
module

public import proofs.«01_k».proof.Proof.Val.Words

@[expose] public section

set_option maxRecDepth 16384

noncomputable section

namespace Cert.KernelIdeal.Hand

open Cert.KernelIdeal.Gen
open Idealize.ShloMosaic Idealize.ShloMosaic.TcCoe

/-- A load of rows of a rank-2 buffer stored whole before. -/
theorem readCov2 {A C a c o₀ o₁ : ℕ} {e : EltTy} (M : Memref sig .tc .vmem ⟨2, ![A, C]⟩ e) (w : Vec Ideal ⟨2, ![A, C]⟩ e)
    (inbW : ∀ j : Fin 2, (![0, 0] : Fin 2 → ℕ) j + (![A, C] : Fin 2 → ℕ) j ≤ (![A, C] : Fin 2 → ℕ) j)
    (inb : ∀ j : Fin 2, (![o₀, o₁] : Fin 2 → ℕ) j + (![a, c] : Fin 2 → ℕ) j ≤ (![A, C] : Fin 2 → ℕ) j)
    (i : Fin a) (j : Fin c) (h₀ : o₀ + i.val < A) (h₁ : o₁ + j.val < C) :
    M.view.readCov (Val := Elt Ideal) [⟨Rect.unit (s := ⟨2, ![A, C]⟩) ![0, 0] ![A, C] inbW, w⟩]
      (Rect.unit (s := ⟨2, ![A, C]⟩) ![o₀, o₁] ![a, c] inb).toLoadRect (ix2 i j) = w (ix2 ⟨o₀ + i.val, h₀⟩ ⟨o₁ + j.val, h₁⟩) := by
  have e : (Rect.unit (s := ⟨2, ![A, C]⟩) ![o₀, o₁] ![a, c] inb).toLoadRect.idx (ix2 i j) = ix2 ⟨o₀ + i.val, h₀⟩ ⟨o₁ + j.val, h₁⟩ :=
    emb2 inb i j h₀ h₁
  refine (View.readCov_agree M.view _ (Rect.unit (s := ⟨2, ![A, C]⟩) ![o₀, o₁] ![a, c] inb).toLoadRect w
    (List.forall_mem_cons.mpr ⟨fun x => ?_, fun _ h => absurd h List.not_mem_nil⟩) (ix2 i j) ⟨_, List.mem_cons_self, ?_⟩).trans (congrArg w e)
  · obtain ⟨p, q, rfl⟩ : ∃ (p : Fin A) (q : Fin C), x = ix2 p q := ⟨x 0, x 1, eq_ix2 x⟩
    dsimp only
    rw [emb2 inbW p q (by omega) (by omega)]
    exact congrArg₂ (fun a b => w (ix2 a b)) (Fin.ext (Nat.zero_add _).symm) (Fin.ext (Nat.zero_add _).symm)
  · rw [e]
    exact mem2 inbW _ _ (by omega) (by dsimp only; omega) (by omega) (by dsimp only; omega)

/-- A load of rows of a rank-3 buffer of one slab stored whole before. -/
theorem readCov3 {A C a c o₀ o₁ : ℕ} {e : EltTy} (M : Memref sig .tc .vmem ⟨3, ![1, A, C]⟩ e) (w : Vec Ideal ⟨3, ![1, A, C]⟩ e)
    (inbW : ∀ j : Fin 3, (![0, 0, 0] : Fin 3 → ℕ) j + (![1, A, C] : Fin 3 → ℕ) j ≤ (![1, A, C] : Fin 3 → ℕ) j)
    (inb : ∀ j : Fin 3, (![0, o₀, o₁] : Fin 3 → ℕ) j + (![1, a, c] : Fin 3 → ℕ) j ≤ (![1, A, C] : Fin 3 → ℕ) j)
    (i : Fin a) (j : Fin c) (h₀ : o₀ + i.val < A) (h₁ : o₁ + j.val < C) :
    M.view.readCov (Val := Elt Ideal) [⟨Rect.unit (s := ⟨3, ![1, A, C]⟩) ![0, 0, 0] ![1, A, C] inbW, w⟩]
      (Rect.unit (s := ⟨3, ![1, A, C]⟩) ![0, o₀, o₁] ![1, a, c] inb).toLoadRect (ix3 0 i j) = w (ix3 0 ⟨o₀ + i.val, h₀⟩ ⟨o₁ + j.val, h₁⟩) := by
  have e : (Rect.unit (s := ⟨3, ![1, A, C]⟩) ![0, o₀, o₁] ![1, a, c] inb).toLoadRect.idx (ix3 0 i j) = ix3 0 ⟨o₀ + i.val, h₀⟩ ⟨o₁ + j.val, h₁⟩ :=
    emb3 inb i j h₀ h₁
  refine (View.readCov_agree M.view _ (Rect.unit (s := ⟨3, ![1, A, C]⟩) ![0, o₀, o₁] ![1, a, c] inb).toLoadRect w
    (List.forall_mem_cons.mpr ⟨fun x => ?_, fun _ h => absurd h List.not_mem_nil⟩) (ix3 0 i j) ⟨_, List.mem_cons_self, ?_⟩).trans (congrArg w e)
  · obtain ⟨z, p, q, rfl⟩ : ∃ (z : Fin 1) (p : Fin A) (q : Fin C), x = ix3 z p q := ⟨x 0, x 1, x 2, eq_ix3 x⟩
    obtain rfl : z = 0 := Subsingleton.elim _ _
    dsimp only
    rw [emb3 inbW p q (by omega) (by omega)]
    exact congrArg₂ (fun a b => w (ix3 0 a b)) (Fin.ext (Nat.zero_add _).symm) (Fin.ext (Nat.zero_add _).symm)
  · rw [e]
    exact mem3 inbW _ _ (by omega) (by dsimp only; omega) (by omega) (by dsimp only; omega)

/-! ## The rotary gradient turned -/

/-- The rows of the rotary gradient stored out of its transpose, 128 keys at a time. -/
inductive Cols (g : Vec Ideal S64x1280 .f32) : ℕ → List (View.Piece (Elt Ideal) S1x1280x64 .f32) → Prop
  | nil : Cols g 0 []
  | cons {L : List (View.Piece (Elt Ideal) S1x1280x64 .f32)} (o : ℕ) (ho : o ≤ 1152)
      {inb : ∀ j, (![0, o, 0] : Fin 3 → ℕ) j + (![1, 128, 64] : Fin 3 → ℕ) j ≤ S1x1280x64.size j} {w : Vec Ideal S64x128 .f32}
      (hL : Cols g o L) (hw : ∀ (d : Fin 64) (k : Fin 128), w (ix2 d k) = g (ix2 d ⟨o + k.val, by omega⟩)) :
      Cols g (o + 128) (⟨Rect.unit ![0, o, 0] ![1, 128, 64] inb, shapeCast S1x128x64 (transpose S128x64 [1, 0] (show FVec Ideal S64x128 .f32 from w) transposes_S64x128_p1_0_S128x64 : FVec Ideal S128x64 .f32) shapeCasts_S128x64_S1x128x64⟩ :: L)

theorem Cols.agree {g : Vec Ideal S64x1280 .f32} {N : ℕ} {L : List (View.Piece (Elt Ideal) S1x1280x64 .f32)} (h : Cols g N L) :
    ∀ p ∈ L, ∀ x, p.2 x = (fun y : S1x1280x64.Idx => g (ix2 (y 2) (y 1))) (p.1.emb x) := by
  induction h with
  | nil => exact fun _ h => absurd h List.not_mem_nil
  | @cons L o ho inb w hL hw ih =>
    refine List.forall_mem_cons.mpr ⟨fun x => ?_, ih⟩
    obtain ⟨z, k, d, rfl⟩ : ∃ (z : Fin 1) (k : Fin 128) (d : Fin 64), x = ix3 z k d := ⟨x 0, x 1, x 2, eq_ix3 x⟩
    obtain rfl : z = 0 := Subsingleton.elim _ _
    dsimp only
    rw [emb3 inb k d (by omega) (by omega)]
    refine Eq.trans ?_ ((hw d k).trans ?_)
    · pointwise
    · exact congrArg (fun a => g (ix2 a _)) (Fin.ext (Nat.zero_add _).symm)

theorem Cols.cover {g : Vec Ideal S64x1280 .f32} {N : ℕ} {L : List (View.Piece (Elt Ideal) S1x1280x64 .f32)} (h : Cols g N L)
    (k : Fin 1280) (d : Fin 64) (hk : k.val < N) : ∃ p ∈ L, ix3 0 k d ∈ p.1.set := by
  induction h with
  | nil => exact absurd hk (Nat.not_lt_zero _)
  | @cons L o ho inb w hL hw ih =>
    by_cases hko : k.val < o
    · obtain ⟨p, hp, hm⟩ := ih hko
      exact ⟨p, List.mem_cons_of_mem _ hp, hm⟩
    · exact ⟨_, List.mem_cons_self, mem3 inb k d (by omega) (by omega) (by omega) (by omega)⟩

theorem Cols.read {g : Vec Ideal S64x1280 .f32} {L : List (View.Piece (Elt Ideal) S1x1280x64 .f32)} (h : Cols g 1280 L)
    (a : Memref sig .tc .vmem S1x1280x64 .f32) (f : a.view.ty.Contents (Elt Ideal)) :
    a.view.read (Elt Ideal) (a.view.writes (Elt Ideal) f L) = fun y => g (ix2 (y 2) (y 1)) := by
  funext y
  refine View.read_writes_agree a.view f (fun y : S1x1280x64.Idx => g (ix2 (y 2) (y 1))) y L h.agree fun hn => ?_
  obtain ⟨z, k, d, rfl⟩ : ∃ (z : Fin 1) (k : Fin 1280) (d : Fin 64), y = ix3 z k d := ⟨y 0, y 1, y 2, eq_ix3 y⟩
  obtain rfl : z = 0 := Subsingleton.elim _ _
  obtain ⟨p, hp, hm⟩ := h.cover k d k.isLt
  exact absurd hm (hn p hp)

/-! ## The keys laid out with their scales -/

/-- Columns of the scaled keys' buffer written for the first `N` keys. -/
structure KtCols (B : Ins) (N : ℕ) (L : List (View.Piece (Elt Ideal) S576x1280 .bf16)) : Prop where
  agree : ∀ p ∈ L, ∀ x, p.2 x = ktOf B (p.1.emb x)
  cover : ∀ (d : Fin 576) (k : Fin 1280), k.val < N → ∃ p ∈ L, ix2 d k ∈ p.1.set

theorem KtCols.nil (B : Ins) : KtCols B 0 [] := ⟨fun _ h => absurd h List.not_mem_nil, fun _ _ h => absurd h (Nat.not_lt_zero _)⟩

/-- 128 keys with their scales. -/
abbrev ktV (kc : Vec Ideal S1x128x576 .fp8e4m3) (s : Vec Ideal S128x1 .f32) : FVec Ideal S128x576 .bf16 :=
  mulf (extf .bf16 (shapeCast S128x576 kc shapeCasts_S1x128x576_S128x576 : FVec Ideal S128x576 .fp8e4m3) bitsLt_fp8e4m3_bf16 : FVec Ideal S128x576 .bf16)
    (broadcastTo S128x576 (truncf .bf16 (show FVec Ideal S128x1 .f32 from s) bitsLt_bf16_f32 : FVec Ideal S128x1 .bf16) broadcasts_S128x1_S128x576)

/-- The next 128 keys' columns, in five stores. -/
theorem KtCols.next {B : Ins} {L : List (View.Piece (Elt Ideal) S576x1280 .bf16)} (o : ℕ) (ho : o ≤ 1152) (h : KtCols B o L)
    {kc : Vec Ideal S1x128x576 .fp8e4m3} {s : Vec Ideal S128x1 .f32}
    (hk : ∀ (k : Fin 128) (d : Fin 576), kc (ix3 0 k d) = B.x1 (ix3 0 ⟨o + k.val, by omega⟩ d))
    (hs : ∀ (k : Fin 128), s (ix2 k 0) = B.x7 (ix3 0 0 ⟨o + k.val, by omega⟩))
    (i0 : ∀ j, (![0, o] : Fin 2 → ℕ) j + (![128, 128] : Fin 2 → ℕ) j ≤ S576x1280.size j)
    (i1 : ∀ j, (![128, o] : Fin 2 → ℕ) j + (![128, 128] : Fin 2 → ℕ) j ≤ S576x1280.size j)
    (i2 : ∀ j, (![256, o] : Fin 2 → ℕ) j + (![128, 128] : Fin 2 → ℕ) j ≤ S576x1280.size j)
    (i3 : ∀ j, (![384, o] : Fin 2 → ℕ) j + (![128, 128] : Fin 2 → ℕ) j ≤ S576x1280.size j)
    (i4 : ∀ j, (![512, o] : Fin 2 → ℕ) j + (![64, 128] : Fin 2 → ℕ) j ≤ S576x1280.size j) :
    KtCols B (o + 128)
      (⟨Rect.unit ![512, o] ![64, 128] i4, shapeCast S64x128 (transpose S64x128 [1, 0] (extractStridedSlice S128x64 ![0, 512] (ktV kc s) slices_S128x576_o0_512_S128x64 : FVec Ideal S128x64 .bf16) transposes_S128x64_p1_0_S64x128 : FVec Ideal S64x128 .bf16) shapeCasts_S64x128_S64x128⟩
      :: ⟨Rect.unit ![384, o] ![128, 128] i3, shapeCast S128x128 (transpose S128x128 [1, 0] (extractStridedSlice S128x128 ![0, 384] (ktV kc s) slices_S128x576_o0_384_S128x128 : FVec Ideal S128x128 .bf16) transposes_S128x128_p1_0_S128x128 : FVec Ideal S128x128 .bf16) shapeCasts_S128x128_S128x128⟩
      :: ⟨Rect.unit ![256, o] ![128, 128] i2, shapeCast S128x128 (transpose S128x128 [1, 0] (extractStridedSlice S128x128 ![0, 256] (ktV kc s) slices_S128x576_o0_256_S128x128 : FVec Ideal S128x128 .bf16) transposes_S128x128_p1_0_S128x128 : FVec Ideal S128x128 .bf16) shapeCasts_S128x128_S128x128⟩
      :: ⟨Rect.unit ![128, o] ![128, 128] i1, shapeCast S128x128 (transpose S128x128 [1, 0] (extractStridedSlice S128x128 ![0, 128] (ktV kc s) slices_S128x576_o0_128_S128x128 : FVec Ideal S128x128 .bf16) transposes_S128x128_p1_0_S128x128 : FVec Ideal S128x128 .bf16) shapeCasts_S128x128_S128x128⟩
      :: ⟨Rect.unit ![0, o] ![128, 128] i0, shapeCast S128x128 (transpose S128x128 [1, 0] (extractStridedSlice S128x128 ![0, 0] (ktV kc s) slices_S128x576_o0_0_S128x128 : FVec Ideal S128x128 .bf16) transposes_S128x128_p1_0_S128x128 : FVec Ideal S128x128 .bf16) shapeCasts_S128x128_S128x128⟩
      :: L) where
  agree := by
    refine List.forall_mem_cons.mpr ⟨fun x => ?_, List.forall_mem_cons.mpr ⟨fun x => ?_, List.forall_mem_cons.mpr ⟨fun x => ?_,
      List.forall_mem_cons.mpr ⟨fun x => ?_, List.forall_mem_cons.mpr ⟨fun x => ?_, h.agree⟩⟩⟩⟩⟩
    · obtain ⟨d, k, rfl⟩ : ∃ (d : Fin 64) (k : Fin 128), x = ix2 d k := ⟨x 0, x 1, eq_ix2 x⟩
      dsimp only
      rw [emb2 i4 d k (by omega) (by omega)]
      pointwise [hk, hs, ktOf, Ins.kt]
    all_goals
      obtain ⟨d, k, rfl⟩ : ∃ (d : Fin 128) (k : Fin 128), x = ix2 d k := ⟨x 0, x 1, eq_ix2 x⟩
      dsimp only
      rw [emb2 _ d k (by omega) (by omega)]
      pointwise [hk, hs, ktOf, Ins.kt]
  cover d k hk := by
    by_cases hko : k.val < o
    · obtain ⟨p, hp, hm⟩ := h.cover d k hko
      exact ⟨p, List.mem_cons_of_mem _ (List.mem_cons_of_mem _ (List.mem_cons_of_mem _ (List.mem_cons_of_mem _ (List.mem_cons_of_mem _ hp)))), hm⟩
    have h0 := fun q => mem2 i0 d k (by omega) q (by omega) (by omega)
    have h1 := fun p q => mem2 i1 d k p q (by omega) (by omega)
    have h2 := fun p q => mem2 i2 d k p q (by omega) (by omega)
    have h3 := fun p q => mem2 i3 d k p q (by omega) (by omega)
    have h4 := fun p q => mem2 i4 d k p q (by omega) (by omega)
    by_cases a0 : d.val < 128
    · exact ⟨_, List.mem_cons_of_mem _ (List.mem_cons_of_mem _ (List.mem_cons_of_mem _ (List.mem_cons_of_mem _ List.mem_cons_self))), h0 (by omega)⟩
    by_cases a1 : d.val < 256
    · exact ⟨_, List.mem_cons_of_mem _ (List.mem_cons_of_mem _ (List.mem_cons_of_mem _ List.mem_cons_self)), h1 (by omega) (by omega)⟩
    by_cases a2 : d.val < 384
    · exact ⟨_, List.mem_cons_of_mem _ (List.mem_cons_of_mem _ List.mem_cons_self), h2 (by omega) (by omega)⟩
    by_cases a3 : d.val < 512
    · exact ⟨_, List.mem_cons_of_mem _ List.mem_cons_self, h3 (by omega) (by omega)⟩
    · exact ⟨_, List.mem_cons_self, h4 (by omega) (by omega)⟩

theorem KtCols.read {B : Ins} {L : List (View.Piece (Elt Ideal) S576x1280 .bf16)} (h : KtCols B 1280 L)
    (a : Memref sig .tc .vmem S576x1280 .bf16) (f : a.view.ty.Contents (Elt Ideal)) :
    a.view.read (Elt Ideal) (a.view.writes (Elt Ideal) f L) = ktOf B := by
  funext y
  refine View.read_writes_agree a.view f (ktOf B) y L h.agree fun hn => ?_
  obtain ⟨d, k, rfl⟩ : ∃ (d : Fin 576) (k : Fin 1280), y = ix2 d k := ⟨y 0, y 1, eq_ix2 y⟩
  obtain ⟨p, hp, hm⟩ := h.cover d k k.isLt
  exact absurd hm (hn p hp)

/-- The first keys' columns loaded again. -/
theorem KtCols.load {B : Ins} {L : List (View.Piece (Elt Ideal) S576x1280 .bf16)} (h : KtCols B 1280 L) (N : ℕ) (hN : N ≤ 1280)
    (M : Memref sig .tc .vmem S576x1280 .bf16)
    (inb : ∀ j, (![0, 0] : Fin 2 → ℕ) j + (![576, N] : Fin 2 → ℕ) j ≤ S576x1280.size j) (d : Fin 576) (k : Fin N) :
    M.view.readCov (Val := Elt Ideal) L (Rect.unit (s := S576x1280) ![0, 0] ![576, N] inb).toLoadRect (ix2 d k)
      = B.kt d ⟨k.val, by omega⟩ := by
  have e : (Rect.unit (s := S576x1280) ![0, 0] ![576, N] inb).toLoadRect.idx (ix2 d k) = ix2 d ⟨k.val, by omega⟩ := by
    refine (emb2 inb d k (by omega) (by omega)).trans ?_
    congr 1 <;> exact Fin.ext (Nat.zero_add _)
  refine (View.readCov_agree M.view L (Rect.unit (s := S576x1280) ![0, 0] ![576, N] inb).toLoadRect (ktOf B) h.agree (ix2 d k) ⟨?_, ?_⟩).trans ?_
  · exact (h.cover d ⟨k.val, by omega⟩ (by dsimp only; omega)).choose
  · have := (h.cover d ⟨k.val, by omega⟩ (by dsimp only; omega)).choose_spec
    refine ⟨this.1, ?_⟩
    rw [e]
    exact this.2
  · exact (congrArg (ktOf B) e).trans rfl

/-- The keys' scales turned into lanes. -/
theorem kvrV_eq (B : Ins) {x : Vec Ideal S1x1x1280 .f32} (hx : x = B.x7) :
    shapeCast S1280x128 (transpose S1280x128 [1, 0] (broadcastTo S128x1280 (shapeCast S1x1280 (shapeCast S1x1280 x shapeCasts_S1x1x1280_S1x1280 : FVec Ideal S1x1280 .f32) shapeCasts_S1x1280_S1x1280 : FVec Ideal S1x1280 .f32) broadcasts_S1x1280_S128x1280 : FVec Ideal S128x1280 .f32) transposes_S128x1280_p1_0_S1280x128 : FVec Ideal S1280x128 .f32) shapeCasts_S1280x128_S1280x128
      = kvrOf B := by
  subst hx
  funext y
  obtain ⟨k, l, rfl⟩ : ∃ (k : Fin 1280) (l : Fin 128), y = ix2 k l := ⟨y 0, y 1, eq_ix2 y⟩
  pointwise [kvrOf]

/-- The scales' buffer after it was stored whole. -/
theorem kvr_read {B : Ins} (a : Memref sig .tc .vmem S1280x128 .f32) (f : a.view.ty.Contents (Elt Ideal)) {w : Vec Ideal S1280x128 .f32}
    (hw : w = kvrOf B) (inb : ∀ j, (![0, 0] : Fin 2 → ℕ) j + (![1280, 128] : Fin 2 → ℕ) j ≤ S1280x128.size j) :
    a.view.read (Elt Ideal) (a.view.writes (Elt Ideal) f [⟨Rect.unit ![0, 0] ![1280, 128] inb, w⟩]) = kvrOf B := by
  subst hw
  funext y
  refine View.read_writes_agree a.view f (kvrOf B) y [⟨Rect.unit ![0, 0] ![1280, 128] inb, kvrOf B⟩]
    (List.forall_mem_cons.mpr ⟨fun x => ?_, fun _ h => absurd h List.not_mem_nil⟩) fun hn => ?_
  · obtain ⟨k, l, rfl⟩ : ∃ (k : Fin 1280) (l : Fin 128), x = ix2 k l := ⟨x 0, x 1, eq_ix2 x⟩
    dsimp only
    rw [emb2 inb k l (by omega) (by omega)]
    exact congrArg (fun a => B.x7 (ix3 0 0 a)) (Fin.ext (Nat.zero_add _).symm)
  · obtain ⟨k, l, rfl⟩ : ∃ (k : Fin 1280) (l : Fin 128), y = ix2 k l := ⟨y 0, y 1, eq_ix2 y⟩
    exact (hn _ List.mem_cons_self (mem2 inb k l (by omega) (by omega) (by omega) (by omega))).elim

theorem fill_dc (y : S1x1280x512.Idx) : (broadcast S1x1280x512 (Scalar.ofBits .f32 0x00000000#32 : Ideal .f32) : FVec Ideal S1x1280x512 .f32) y = 0 := by
  obtain ⟨z, k, c, rfl⟩ : ∃ (z : Fin 1) (k : Fin 1280) (c : Fin 512), y = ix3 z k c := ⟨y 0, y 1, y 2, eq_ix3 y⟩
  pointwise
theorem fill_dkrt (y : S64x1280.Idx) :
    (shapeCast S64x1280 (broadcast S64x1280 (Scalar.ofBits .f32 0x00000000#32 : Ideal .f32) : FVec Ideal S64x1280 .f32) shapeCasts_S64x1280_S64x1280) y = 0 := by
  obtain ⟨d, k, rfl⟩ : ∃ (d : Fin 64) (k : Fin 1280), y = ix2 d k := ⟨y 0, y 1, eq_ix2 y⟩
  pointwise

end Cert.KernelIdeal.Hand
-- ==== Proof.Val.CaseA.lean ====
/- What the body leaves at the first step of a batch. -/
module

public import proofs.«01_k».proof.Proof.Run.A
public import proofs.«01_k».proof.Proof.Val.Whole

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesA (hc0 : cond0_0 i) (hc1 : cond0_1 i) (hc2 : ¬cond0_2 i) (hc3 : ¬cond0_3 i) (hc4 : ¬cond0_4 i) (hc5 : ¬cond0_5 i) (hc6 : ¬cond0_6 i)
    (hlo : (i 1).val = 0) :
    StepLeaves B (i 1).val True False arg10 arg11 harg11 arg12 harg12 arg13 harg13 arg14 harg14 arg18 harg18 x9 x10 xs0 xs1 xs5
      (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have hkv := kvrV_eq B (load_all arg9 harg9 inb_S1x1x1280_S1x1x1280_0_0_0 (by decide) B.x7)
  have T0 := tile_of B 0 (by omega) arg3 harg3 inb_S1x1280x576_S1x256x576_0_0_0 fun k l =>
    (readCov2 arg14 _ inb_S1280x128_S1280x128_0_0 inb_S1280x128_S256x128_0_0 k l (by omega) (by omega)).trans (congrFun hkv _)
  have sc := fun (o : ℕ) (ho : o ≤ 1152) (inb : ∀ j, (![o, 0] : Fin 2 → ℕ) j + (![128, 1] : Fin 2 → ℕ) j ≤ S1280x128.size j) (k : Fin 128) =>
    (readCov2 arg14 _ inb_S1280x128_S1280x128_0_0 inb k 0 (by omega) (by decide)).trans (congrFun hkv _)
  have kr := fun (o : ℕ) (ho : o ≤ 1152) (inb : ∀ j, (![0, o, 0] : Fin 3 → ℕ) j + (![1, 128, 576] : Fin 3 → ℕ) j ≤ S1x1280x576.size j) (k : Fin 128) (d : Fin 576) =>
    (load_rows3 arg3 harg3 inb B.x1 k d (by omega) (by omega)).trans (congrArg (fun z => B.x1 (ix3 0 _ z)) (Fin.ext (Nat.zero_add _)))
  have K : KtCols B 1280 _ := (KtCols.next 1152 (by omega) (KtCols.next 1024 (by omega) (KtCols.next 896 (by omega) (KtCols.next 768 (by omega) (KtCols.next 640 (by omega) (KtCols.next 512 (by omega) (KtCols.next 384 (by omega) (KtCols.next 256 (by omega) (KtCols.next 128 (by omega) (KtCols.next 0 (by omega) (KtCols.nil B) (kr 0 (by omega) inb_S1x1280x576_S1x128x576_0_0_0) (sc 0 (by omega) inb_S1280x128_S128x1_0_0)
    inb_S576x1280_S128x128_0_0 inb_S576x1280_S128x128_128_0 inb_S576x1280_S128x128_256_0 inb_S576x1280_S128x128_384_0 inb_S576x1280_S64x128_512_0) (kr 128 (by omega) inb_S1x1280x576_S1x128x576_0_128_0) (sc 128 (by omega) inb_S1280x128_S128x1_128_0)
    inb_S576x1280_S128x128_0_128 inb_S576x1280_S128x128_128_128 inb_S576x1280_S128x128_256_128 inb_S576x1280_S128x128_384_128 inb_S576x1280_S64x128_512_128) (kr 256 (by omega) inb_S1x1280x576_S1x128x576_0_256_0) (sc 256 (by omega) inb_S1280x128_S128x1_256_0)
    inb_S576x1280_S128x128_0_256 inb_S576x1280_S128x128_128_256 inb_S576x1280_S128x128_256_256 inb_S576x1280_S128x128_384_256 inb_S576x1280_S64x128_512_256) (kr 384 (by omega) inb_S1x1280x576_S1x128x576_0_384_0) (sc 384 (by omega) inb_S1280x128_S128x1_384_0)
    inb_S576x1280_S128x128_0_384 inb_S576x1280_S128x128_128_384 inb_S576x1280_S128x128_256_384 inb_S576x1280_S128x128_384_384 inb_S576x1280_S64x128_512_384) (kr 512 (by omega) inb_S1x1280x576_S1x128x576_0_512_0) (sc 512 (by omega) inb_S1280x128_S128x1_512_0)
    inb_S576x1280_S128x128_0_512 inb_S576x1280_S128x128_128_512 inb_S576x1280_S128x128_256_512 inb_S576x1280_S128x128_384_512 inb_S576x1280_S64x128_512_512) (kr 640 (by omega) inb_S1x1280x576_S1x128x576_0_640_0) (sc 640 (by omega) inb_S1280x128_S128x1_640_0)
    inb_S576x1280_S128x128_0_640 inb_S576x1280_S128x128_128_640 inb_S576x1280_S128x128_256_640 inb_S576x1280_S128x128_384_640 inb_S576x1280_S64x128_512_640) (kr 768 (by omega) inb_S1x1280x576_S1x128x576_0_768_0) (sc 768 (by omega) inb_S1280x128_S128x1_768_0)
    inb_S576x1280_S128x128_0_768 inb_S576x1280_S128x128_128_768 inb_S576x1280_S128x128_256_768 inb_S576x1280_S128x128_384_768 inb_S576x1280_S64x128_512_768) (kr 896 (by omega) inb_S1x1280x576_S1x128x576_0_896_0) (sc 896 (by omega) inb_S1280x128_S128x1_896_0)
    inb_S576x1280_S128x128_0_896 inb_S576x1280_S128x128_128_896 inb_S576x1280_S128x128_256_896 inb_S576x1280_S128x128_384_896 inb_S576x1280_S64x128_512_896) (kr 1024 (by omega) inb_S1x1280x576_S1x128x576_0_1024_0) (sc 1024 (by omega) inb_S1280x128_S128x1_1024_0)
    inb_S576x1280_S128x128_0_1024 inb_S576x1280_S128x128_128_1024 inb_S576x1280_S128x128_256_1024 inb_S576x1280_S128x128_384_1024 inb_S576x1280_S64x128_512_1024) (kr 1152 (by omega) inb_S1x1280x576_S1x128x576_0_1152_0) (sc 1152 (by omega) inb_S1280x128_S128x1_1152_0)
    inb_S576x1280_S128x128_0_1152 inb_S576x1280_S128x128_128_1152 inb_S576x1280_S128x128_256_1152 inb_S576x1280_S128x128_384_1152 inb_S576x1280_S64x128_512_1152)
  have Td : Tiles (B.dsq (i 1).val) 256 _ := .cons (inb := inb_S1280x512_S256x512_0_0) 0 (by omega) .nil (H.dsq_last T0 _ (by omega))
  have Tp : Tiles (B.pt (i 1).val) 256 _ := .cons (inb := inb_S1280x512_S256x512_0_0) 0 (by omega) .nil (H.pt_last T0 _ (by omega))
  have Ts : Tiles (B.ds (i 1).val) 256 _ := .cons (inb := inb_S1280x512_S256x512_0_0) 0 (by omega) .nil (H.ds_last T0 _ (by omega))
  unfold runA
  dsimp only
  refine ⟨?_, ?_, ?_, ?_, ?_, ?_⟩
  · intro f
    refine (dq_pieces arg10 f _ _ _ _ _ _).trans ?_
    exact dq256 (by omega) (K.load 256 (by omega) arg13 inb_S576x1280_S576x256_0_0) (Ts.load (by omega) arg15 inb_S1280x512_S256x512_0_0)
  · refine dc_first B (i 1).val 256 (by omega) (by omega) arg11 _ x9 _ fill_dc _ _ _ fun k c => ?_
    exact dc256 k c ((readCov3 arg11 _ inb_S1x1280x512_S1x1280x512_0_0_0 inb_S1x1280x512_S1x256x512_0_0_0 k c (by omega) (by omega)).trans (fill_dc _)) H.q H.g
      (Td.load (by omega) arg16 inb_S1280x512_S256x512_0_0) (Tp.load (by omega) arg17 inb_S1280x512_S256x512_0_0)
  · exact False.elim
  · exact K.read arg13 _
  · exact kvr_read arg14 _ hkv inb_S1280x128_S1280x128_0_0
  · refine dkrt_first B (i 1).val 256 (by omega) (by omega) arg18 _ xs5 _ fill_dkrt _ _ _ fun d k => ?_
    exact dkrt256 d k ((readCov2 arg18 _ inb_S64x1280_S64x1280_0_0 inb_S64x1280_S64x256_0_0 d k (by omega) (by omega)).trans (fill_dkrt _)) H.q (Td.load (by omega) arg16 inb_S1280x512_S256x512_0_0)

end Cert.KernelIdeal.Hand
-- ==== Proof.Run.B.lean ====
/- The run of the body at steps 1 to 15 of a batch. -/
module

public import proofs.«01_k».proof.Proof.Run.A

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at steps 1 to 15 of a batch, with its triple: found by running it. -/
def runB
    (hc0 : ¬cond0_0 i) (hc1 : cond0_1 i) (hc2 : ¬cond0_2 i) (hc3 : ¬cond0_3 i) (hc4 : ¬cond0_4 i) (hc5 : ¬cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part12_eq_skeleton, k0_part10_eq_skeleton, k0_part11_eq_skeleton, k0_part39_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseB.lean ====
/- What the body leaves at steps 1 to 15 of a batch. -/
module

public import proofs.«01_k».proof.Proof.Run.B
public import proofs.«01_k».proof.Proof.Val.Words

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesB (hc0 : ¬cond0_0 i) (hc1 : cond0_1 i) (hc2 : ¬cond0_2 i) (hc3 : ¬cond0_3 i) (hc4 : ¬cond0_4 i) (hc5 : ¬cond0_5 i) (hc6 : ¬cond0_6 i)
    (hlo : 1 ≤ (i 1).val) (hhi : (i 1).val ≤ 15) (hkt : xs0 = ktOf B) (hkvr : xs1 = kvrOf B) :
    StepLeaves B (i 1).val False False arg10 arg11 harg11 arg12 harg12 arg13 harg13 arg14 harg14 arg18 harg18 x9 x10 xs0 xs1 xs5
      (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have Td : Tiles (B.dsq (i 1).val) 256 _ := .cons (inb := inb_S1280x512_S256x512_0_0) 0 (by omega) .nil (H.dsq_last T0 _ (by omega))
  have Tp : Tiles (B.pt (i 1).val) 256 _ := .cons (inb := inb_S1280x512_S256x512_0_0) 0 (by omega) .nil (H.pt_last T0 _ (by omega))
  have Ts : Tiles (B.ds (i 1).val) 256 _ := .cons (inb := inb_S1280x512_S256x512_0_0) 0 (by omega) .nil (H.ds_last T0 _ (by omega))
  unfold runB
  dsimp only
  refine ⟨?_, ?_, ?_, ?_, ?_, ?_⟩
  · intro f
    refine (dq_pieces arg10 f _ _ _ _ _ _).trans ?_
    exact dq256 (by omega) (kt_rows B 256 (by omega) arg13 harg13 inb_S576x1280_S576x256_0_0) (Ts.load (by omega) arg15 inb_S1280x512_S256x512_0_0)
  · refine dc_piece B (i 1).val 256 (by omega) (by omega) arg11 harg11 x9 _ _ fun k c => ?_
    exact dc256 k c (dc_rows x9 256 (by omega) arg11 harg11 inb_S1x1280x512_S1x256x512_0_0_0 k c) H.q H.g
      (Td.load (by omega) arg16 inb_S1280x512_S256x512_0_0) (Tp.load (by omega) arg17 inb_S1280x512_S256x512_0_0)
  · exact False.elim
  · rw [View.writes_nil, harg13.read_unread]
  · rw [View.writes_nil, harg14.read_unread]
  · refine dkrt_piece B (i 1).val 256 (by omega) (by omega) arg18 harg18 xs5 _ _ fun d k => ?_
    exact dkrt256 d k (dkrt_rows xs5 256 (by omega) arg18 harg18 inb_S64x1280_S64x256_0_0 d k) H.q (Td.load (by omega) arg16 inb_S1280x512_S256x512_0_0)

end Cert.KernelIdeal.Hand
-- ==== Proof.Run.C.lean ====
/- The run of the body at steps 16 to 31 of a batch. -/
module

public import proofs.«01_k».proof.Proof.Run.B

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at steps 16 to 31 of a batch, with its triple: found by running it. -/
def runC
    (hc0 : ¬cond0_0 i) (hc1 : ¬cond0_1 i) (hc2 : cond0_2 i) (hc3 : ¬cond0_3 i) (hc4 : ¬cond0_4 i) (hc5 : ¬cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part16_eq_skeleton, k0_part13_eq_skeleton, k0_part14_eq_skeleton, k0_part15_eq_skeleton, k0_part39_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseC.lean ====
/- What the body leaves at steps 16 to 31 of a batch. -/
module

public import proofs.«01_k».proof.Proof.Run.C
public import proofs.«01_k».proof.Proof.Val.Words

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesC (hc0 : ¬cond0_0 i) (hc1 : ¬cond0_1 i) (hc2 : cond0_2 i) (hc3 : ¬cond0_3 i) (hc4 : ¬cond0_4 i) (hc5 : ¬cond0_5 i) (hc6 : ¬cond0_6 i)
    (hlo : 16 ≤ (i 1).val) (hhi : (i 1).val ≤ 31) (hkt : xs0 = ktOf B) (hkvr : xs1 = kvrOf B) :
    StepLeaves B (i 1).val False False arg10 arg11 harg11 arg12 harg12 arg13 harg13 arg14 harg14 arg18 harg18 x9 x10 xs0 xs1 xs5
      (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have T1 := tile_of B 256 (by omega) arg3 harg3 inb_S1x1280x576_S1x256x576_0_256_0 (scales_of B 256 (by omega) arg14 harg14 inb_S1280x128_S256x128_256_0)
  have Td : Tiles (B.dsq (i 1).val) 512 _ := .cons (inb := inb_S1280x512_S256x512_256_0) 256 (by omega) (.cons (inb := inb_S1280x512_S256x512_0_0) 0 (by omega) .nil (H.dsq_open T0 _ (by omega))) (H.dsq_last T1 _ (by omega))
  have Tp : Tiles (B.pt (i 1).val) 512 _ := .cons (inb := inb_S1280x512_S256x512_256_0) 256 (by omega) (.cons (inb := inb_S1280x512_S256x512_0_0) 0 (by omega) .nil (H.pt_open T0 _ (by omega))) (H.pt_last T1 _ (by omega))
  have Ts : Tiles (B.ds (i 1).val) 512 _ := .cons (inb := inb_S1280x512_S256x512_256_0) 256 (by omega) (.cons (inb := inb_S1280x512_S256x512_0_0) 0 (by omega) .nil (H.ds_open T0 _ (by omega))) (H.ds_last T1 _ (by omega))
  unfold runC
  dsimp only
  refine ⟨?_, ?_, ?_, ?_, ?_, ?_⟩
  · intro f
    refine (dq_pieces arg10 f _ _ _ _ _ _).trans ?_
    exact dq512 (by omega) (kt_rows B 512 (by omega) arg13 harg13 inb_S576x1280_S576x512_0_0) (Ts.load (by omega) arg15 inb_S1280x512_S512x512_0_0)
  · refine dc_piece B (i 1).val 512 (by omega) (by omega) arg11 harg11 x9 _ _ fun k c => ?_
    exact dc512 k c (dc_rows x9 512 (by omega) arg11 harg11 inb_S1x1280x512_S1x512x512_0_0_0 k c) H.q H.g
      (Td.load (by omega) arg16 inb_S1280x512_S512x512_0_0) (Tp.load (by omega) arg17 inb_S1280x512_S512x512_0_0)
  · exact False.elim
  · rw [View.writes_nil, harg13.read_unread]
  · rw [View.writes_nil, harg14.read_unread]
  · refine dkrt_piece B (i 1).val 512 (by omega) (by omega) arg18 harg18 xs5 _ _ fun d k => ?_
    exact dkrt512 d k (dkrt_rows xs5 512 (by omega) arg18 harg18 inb_S64x1280_S64x512_0_0 d k) H.q (Td.load (by omega) arg16 inb_S1280x512_S512x512_0_0)

end Cert.KernelIdeal.Hand
-- ==== Proof.Run.D.lean ====
/- The run of the body at steps 32 to 47 of a batch. -/
module

public import proofs.«01_k».proof.Proof.Run.C

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at steps 32 to 47 of a batch, with its triple: found by running it. -/
def runD
    (hc0 : ¬cond0_0 i) (hc1 : ¬cond0_1 i) (hc2 : ¬cond0_2 i) (hc3 : cond0_3 i) (hc4 : ¬cond0_4 i) (hc5 : ¬cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part39_eq_skeleton, k0_part17_eq_skeleton, k0_part18_eq_skeleton, k0_part19_eq_skeleton, k0_part20_eq_skeleton, k0_part21_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseD.lean ====
/- What the body leaves at steps 32 to 47 of a batch. -/
module

public import proofs.«01_k».proof.Proof.Run.D
public import proofs.«01_k».proof.Proof.Val.Words

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesD (hc0 : ¬cond0_0 i) (hc1 : ¬cond0_1 i) (hc2 : ¬cond0_2 i) (hc3 : cond0_3 i) (hc4 : ¬cond0_4 i) (hc5 : ¬cond0_5 i) (hc6 : ¬cond0_6 i)
    (hlo : 32 ≤ (i 1).val) (hhi : (i 1).val ≤ 47) (hkt : xs0 = ktOf B) (hkvr : xs1 = kvrOf B) :
    StepLeaves B (i 1).val False False arg10 arg11 harg11 arg12 harg12 arg13 harg13 arg14 harg14 arg18 harg18 x9 x10 xs0 xs1 xs5
      (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have T1 := tile_of B 256 (by omega) arg3 harg3 inb_S1x1280x576_S1x256x576_0_256_0 (scales_of B 256 (by omega) arg14 harg14 inb_S1280x128_S256x128_256_0)
  have T2 := tile_of B 512 (by omega) arg3 harg3 inb_S1x1280x576_S1x256x576_0_512_0 (scales_of B 512 (by omega) arg14 harg14 inb_S1280x128_S256x128_512_0)
  have Td : Tiles (B.dsq (i 1).val) 768 _ := .cons (inb := inb_S1280x512_S256x512_512_0) 512 (by omega) (.cons (inb := inb_S1280x512_S256x512_256_0) 256 (by omega) (.cons (inb := inb_S1280x512_S256x512_0_0) 0 (by omega) .nil (H.dsq_open T0 _ (by omega))) (H.dsq_open T1 _ (by omega))) (H.dsq_last T2 _ (by omega))
  have Tp : Tiles (B.pt (i 1).val) 768 _ := .cons (inb := inb_S1280x512_S256x512_512_0) 512 (by omega) (.cons (inb := inb_S1280x512_S256x512_256_0) 256 (by omega) (.cons (inb := inb_S1280x512_S256x512_0_0) 0 (by omega) .nil (H.pt_open T0 _ (by omega))) (H.pt_open T1 _ (by omega))) (H.pt_last T2 _ (by omega))
  have Ts : Tiles (B.ds (i 1).val) 768 _ := .cons (inb := inb_S1280x512_S256x512_512_0) 512 (by omega) (.cons (inb := inb_S1280x512_S256x512_256_0) 256 (by omega) (.cons (inb := inb_S1280x512_S256x512_0_0) 0 (by omega) .nil (H.ds_open T0 _ (by omega))) (H.ds_open T1 _ (by omega))) (H.ds_last T2 _ (by omega))
  unfold runD
  dsimp only
  refine ⟨?_, ?_, ?_, ?_, ?_, ?_⟩
  · intro f
    refine (dq_pieces arg10 f _ _ _ _ _ _).trans ?_
    exact dq768 (by omega) (kt_rows B 768 (by omega) arg13 harg13 inb_S576x1280_S576x768_0_0) (Ts.load (by omega) arg15 inb_S1280x512_S768x512_0_0)
  · refine dc_piece B (i 1).val 768 (by omega) (by omega) arg11 harg11 x9 _ _ fun k c => ?_
    exact dc768 k c (dc_rows x9 768 (by omega) arg11 harg11 inb_S1x1280x512_S1x768x512_0_0_0 k c) H.q H.g
      (Td.load (by omega) arg16 inb_S1280x512_S768x512_0_0) (Tp.load (by omega) arg17 inb_S1280x512_S768x512_0_0)
  · exact False.elim
  · rw [View.writes_nil, harg13.read_unread]
  · rw [View.writes_nil, harg14.read_unread]
  · refine dkrt_piece B (i 1).val 768 (by omega) (by omega) arg18 harg18 xs5 _ _ fun d k => ?_
    exact dkrt768 d k (dkrt_rows xs5 768 (by omega) arg18 harg18 inb_S64x1280_S64x768_0_0 d k) H.q (Td.load (by omega) arg16 inb_S1280x512_S768x512_0_0)

end Cert.KernelIdeal.Hand
-- ==== Proof.Run.E.lean ====
/- The run of the body at steps 48 to 63 of a batch. -/
module

public import proofs.«01_k».proof.Proof.Run.D

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at steps 48 to 63 of a batch, with its triple: found by running it. -/
def runE
    (hc0 : ¬cond0_0 i) (hc1 : ¬cond0_1 i) (hc2 : ¬cond0_2 i) (hc3 : ¬cond0_3 i) (hc4 : cond0_4 i) (hc5 : ¬cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part39_eq_skeleton, k0_part22_eq_skeleton, k0_part23_eq_skeleton, k0_part24_eq_skeleton, k0_part25_eq_skeleton, k0_part26_eq_skeleton, k0_part27_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseE.lean ====
/- What the body leaves at steps 48 to 63 of a batch. -/
module

public import proofs.«01_k».proof.Proof.Run.E
public import proofs.«01_k».proof.Proof.Val.Words

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesE (hc0 : ¬cond0_0 i) (hc1 : ¬cond0_1 i) (hc2 : ¬cond0_2 i) (hc3 : ¬cond0_3 i) (hc4 : cond0_4 i) (hc5 : ¬cond0_5 i) (hc6 : ¬cond0_6 i)
    (hlo : 48 ≤ (i 1).val) (hhi : (i 1).val ≤ 63) (hkt : xs0 = ktOf B) (hkvr : xs1 = kvrOf B) :
    StepLeaves B (i 1).val False False arg10 arg11 harg11 arg12 harg12 arg13 harg13 arg14 harg14 arg18 harg18 x9 x10 xs0 xs1 xs5
      (runE (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have T1 := tile_of B 256 (by omega) arg3 harg3 inb_S1x1280x576_S1x256x576_0_256_0 (scales_of B 256 (by omega) arg14 harg14 inb_S1280x128_S256x128_256_0)
  have T2 := tile_of B 512 (by omega) arg3 harg3 inb_S1x1280x576_S1x256x576_0_512_0 (scales_of B 512 (by omega) arg14 harg14 inb_S1280x128_S256x128_512_0)
  have T3 := tile_of B 768 (by omega) arg3 harg3 inb_S1x1280x576_S1x256x576_0_768_0 (scales_of B 768 (by omega) arg14 harg14 inb_S1280x128_S256x128_768_0)
  have Td : Tiles (B.dsq (i 1).val) 1024 _ := .cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.dsq_open T0 _ (by omega))) (H.dsq_open T1 _ (by omega))) (H.dsq_open T2 _ (by omega))) (H.dsq_last T3 _ (by omega))
  have Tp : Tiles (B.pt (i 1).val) 1024 _ := .cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.pt_open T0 _ (by omega))) (H.pt_open T1 _ (by omega))) (H.pt_open T2 _ (by omega))) (H.pt_last T3 _ (by omega))
  have Ts : Tiles (B.ds (i 1).val) 1024 _ := .cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.ds_open T0 _ (by omega))) (H.ds_open T1 _ (by omega))) (H.ds_open T2 _ (by omega))) (H.ds_last T3 _ (by omega))
  unfold runE
  dsimp only
  refine ⟨?_, ?_, ?_, ?_, ?_, ?_⟩
  · intro f
    refine (dq_pieces arg10 f _ _ _ _ _ _).trans ?_
    exact dq1024 (by omega) (kt_rows B 1024 (by omega) arg13 harg13 inb_S576x1280_S576x1024_0_0) (Ts.load (by omega) arg15 inb_S1280x512_S1024x512_0_0)
  · refine dc_piece B (i 1).val 1024 (by omega) (by omega) arg11 harg11 x9 _ _ fun k c => ?_
    exact dc1024 k c (dc_rows x9 1024 (by omega) arg11 harg11 inb_S1x1280x512_S1x1024x512_0_0_0 k c) H.q H.g
      (Td.load (by omega) arg16 inb_S1280x512_S1024x512_0_0) (Tp.load (by omega) arg17 inb_S1280x512_S1024x512_0_0)
  · exact False.elim
  · rw [View.writes_nil, harg13.read_unread]
  · rw [View.writes_nil, harg14.read_unread]
  · refine dkrt_piece B (i 1).val 1024 (by omega) (by omega) arg18 harg18 xs5 _ _ fun d k => ?_
    exact dkrt1024 d k (dkrt_rows xs5 1024 (by omega) arg18 harg18 inb_S64x1280_S64x1024_0_0 d k) H.q (Td.load (by omega) arg16 inb_S1280x512_S1024x512_0_0)

end Cert.KernelIdeal.Hand
-- ==== Proof.Run.F.lean ====
/- The run of the body at steps 64 to 78 of a batch. -/
module

public import proofs.«01_k».proof.Proof.Run.E

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at steps 64 to 78 of a batch, with its triple: found by running it. -/
def runF
    (hc0 : ¬cond0_0 i) (hc1 : ¬cond0_1 i) (hc2 : ¬cond0_2 i) (hc3 : ¬cond0_3 i) (hc4 : ¬cond0_4 i) (hc5 : cond0_5 i) (hc6 : ¬cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, [], [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part39_eq_skeleton, k0_part28_eq_skeleton, k0_part29_eq_skeleton, k0_part30_eq_skeleton, k0_part31_eq_skeleton, k0_part32_eq_skeleton, k0_part33_eq_skeleton, k0_part34_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseF.lean ====
/- What the body leaves at steps 64 to 78 of a batch. -/
module

public import proofs.«01_k».proof.Proof.Run.F
public import proofs.«01_k».proof.Proof.Val.Words

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesF (hc0 : ¬cond0_0 i) (hc1 : ¬cond0_1 i) (hc2 : ¬cond0_2 i) (hc3 : ¬cond0_3 i) (hc4 : ¬cond0_4 i) (hc5 : cond0_5 i) (hc6 : ¬cond0_6 i)
    (hlo : 64 ≤ (i 1).val) (hhi : (i 1).val ≤ 78) (hkt : xs0 = ktOf B) (hkvr : xs1 = kvrOf B) :
    StepLeaves B (i 1).val False False arg10 arg11 harg11 arg12 harg12 arg13 harg13 arg14 harg14 arg18 harg18 x9 x10 xs0 xs1 xs5
      (runF (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have T1 := tile_of B 256 (by omega) arg3 harg3 inb_S1x1280x576_S1x256x576_0_256_0 (scales_of B 256 (by omega) arg14 harg14 inb_S1280x128_S256x128_256_0)
  have T2 := tile_of B 512 (by omega) arg3 harg3 inb_S1x1280x576_S1x256x576_0_512_0 (scales_of B 512 (by omega) arg14 harg14 inb_S1280x128_S256x128_512_0)
  have T3 := tile_of B 768 (by omega) arg3 harg3 inb_S1x1280x576_S1x256x576_0_768_0 (scales_of B 768 (by omega) arg14 harg14 inb_S1280x128_S256x128_768_0)
  have T4 := tile_of B 1024 (by omega) arg3 harg3 inb_S1x1280x576_S1x256x576_0_1024_0 (scales_of B 1024 (by omega) arg14 harg14 inb_S1280x128_S256x128_1024_0)
  have Td : Tiles (B.dsq (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.dsq_open T0 _ (by omega))) (H.dsq_open T1 _ (by omega))) (H.dsq_open T2 _ (by omega))) (H.dsq_open T3 _ (by omega))) (H.dsq_last T4 _ (by omega))
  have Tp : Tiles (B.pt (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.pt_open T0 _ (by omega))) (H.pt_open T1 _ (by omega))) (H.pt_open T2 _ (by omega))) (H.pt_open T3 _ (by omega))) (H.pt_last T4 _ (by omega))
  have Ts : Tiles (B.ds (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.ds_open T0 _ (by omega))) (H.ds_open T1 _ (by omega))) (H.ds_open T2 _ (by omega))) (H.ds_open T3 _ (by omega))) (H.ds_last T4 _ (by omega))
  unfold runF
  dsimp only
  refine ⟨?_, ?_, ?_, ?_, ?_, ?_⟩
  · intro f
    refine (dq_pieces arg10 f _ _ _ _ _ _).trans ?_
    exact dq1280 (by omega) (kt_rows B 1280 (by omega) arg13 harg13 inb_S576x1280_S576x1280_0_0) (Ts.load (by omega) arg15 inb_S1280x512_S1280x512_0_0)
  · refine dc_piece B (i 1).val 1280 (by omega) (by omega) arg11 harg11 x9 _ _ fun k c => ?_
    exact dc1280 k c (dc_rows x9 1280 (by omega) arg11 harg11 inb_S1x1280x512_S1x1280x512_0_0_0 k c) H.q H.g
      (Td.load (by omega) arg16 inb_S1280x512_S1280x512_0_0) (Tp.load (by omega) arg17 inb_S1280x512_S1280x512_0_0)
  · exact False.elim
  · rw [View.writes_nil, harg13.read_unread]
  · rw [View.writes_nil, harg14.read_unread]
  · refine dkrt_piece B (i 1).val 1280 (by omega) (by omega) arg18 harg18 xs5 _ _ fun d k => ?_
    exact dkrt1280 d k (dkrt_rows xs5 1280 (by omega) arg18 harg18 inb_S64x1280_S64x1280_0_0 d k) H.q (Td.load (by omega) arg16 inb_S1280x512_S1280x512_0_0)

end Cert.KernelIdeal.Hand
-- ==== Proof.Run.G.lean ====
/- The run of the body at the last step of a batch. -/
module

public import proofs.«01_k».proof.Proof.Run.F

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (x0 : Vec F S1x512x576 .fp8e4m3) (x1 : Vec F S1x1280x576 .fp8e4m3) (x2 : Vec F S1x512x512 .bf16)
  (x3 : Vec F S1x512x512 .fp8e5m2) (x4 x5 x6 : Vec F S1x1x1x512 .f32) (x7 : Vec F S1x1x1280 .f32)
  (x9 : Vec F S1x1280x512 .f32) (x10 : Vec F S1x1280x64 .f32)
  (xs0 : Vec F S576x1280 .bf16) (xs1 : Vec F S1280x128 .f32) (xs5 : Vec F S64x1280 .f32)

set_option maxHeartbeats 1000000 in
/-- The pieces the body leaves at the last step of a batch, with its triple: found by running it. -/
def runG
    (hc0 : ¬cond0_0 i) (hc1 : ¬cond0_1 i) (hc2 : ¬cond0_2 i) (hc3 : ¬cond0_3 i) (hc4 : ¬cond0_4 i) (hc5 : cond0_5 i) (hc6 : cond0_6 i) :
    { L : Pieces F // RunSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        x0 x1 x2 x3 x4 x5 x6 x7 x9 x10 xs0 xs1 xs5 L } := by
  refine ⟨⟨?_, ?_, ?_, [], [], ?_⟩, fun E K => ?run⟩
  case run =>
    dsimp only
    simp only [cc0_mla_bwd_eq_skeleton]; unfold cc0_mla_bwd_skel
    simp only [k0_part36_eq_skeleton, k0_part37_eq_skeleton, k0_part38_eq_skeleton, k0_part39_eq_skeleton, k0_part28_eq_skeleton, k0_part29_eq_skeleton, k0_part30_eq_skeleton, k0_part31_eq_skeleton, k0_part32_eq_skeleton, k0_part33_eq_skeleton, k0_part34_eq_skeleton, k0_part35_eq_skeleton]
    iintro ⟨H2, H3, H4, H5, H6, H7, H8, H9, ⟨%f10, H10⟩, H11, H12, H13, H14, ⟨%f15, H15⟩, ⟨%f16, H16⟩, ⟨%f17, H17⟩, H18, Hk⟩
    sl_exec (disch := first | sl_exact hc0 | sl_exact hc1 | sl_exact hc2 | sl_exact hc3 | sl_exact hc4 | sl_exact hc5 | sl_exact hc6)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexact H18

end Cert.KernelIdeal.Hand

end
-- ==== Proof.Val.CaseG.lean ====
/- What the body leaves at steps 79 to 79 of a batch. -/
module

public import proofs.«01_k».proof.Proof.Run.G
public import proofs.«01_k».proof.Proof.Val.Whole

@[expose] public section

set_option maxRecDepth 16384

noncomputable section

namespace Cert.KernelIdeal.Hand

open Cert.KernelIdeal.Gen
open Idealize.ShloMosaic Idealize.ShloMosaic.TcCoe

variable (c : Dev nD) (i : grid0.Coords)
  (arg2 : Memref sig .tc .vmem S1x512x576 .fp8e4m3) (harg2 : arg2.IsWhole)
  (arg3 : Memref sig .tc .vmem S1x1280x576 .fp8e4m3) (harg3 : arg3.IsWhole)
  (arg4 : Memref sig .tc .vmem S1x512x512 .bf16) (harg4 : arg4.IsWhole)
  (arg5 : Memref sig .tc .vmem S1x512x512 .fp8e5m2) (harg5 : arg5.IsWhole)
  (arg6 : Memref sig .tc .vmem S1x1x1x512 .f32) (harg6 : arg6.IsWhole)
  (arg7 : Memref sig .tc .vmem S1x1x1x512 .f32) (harg7 : arg7.IsWhole)
  (arg8 : Memref sig .tc .vmem S1x1x1x512 .f32) (harg8 : arg8.IsWhole)
  (arg9 : Memref sig .tc .vmem S1x1x1280 .f32) (harg9 : arg9.IsWhole)
  (arg10 : Memref sig .tc .vmem S1x512x576 .bf16) (harg10 : arg10.IsWhole)
  (arg11 : Memref sig .tc .vmem S1x1280x512 .f32) (harg11 : arg11.IsWhole)
  (arg12 : Memref sig .tc .vmem S1x1280x64 .f32) (harg12 : arg12.IsWhole)
  (arg13 : Memref sig .tc .vmem S576x1280 .bf16) (harg13 : arg13.IsWhole)
  (arg14 : Memref sig .tc .vmem S1280x128 .f32) (harg14 : arg14.IsWhole)
  (arg15 : Memref sig .tc .vmem S1280x512 .bf16) (harg15 : arg15.IsWhole)
  (arg16 : Memref sig .tc .vmem S1280x512 .bf16) (harg16 : arg16.IsWhole)
  (arg17 : Memref sig .tc .vmem S1280x512 .bf16) (harg17 : arg17.IsWhole)
  (arg18 : Memref sig .tc .vmem S64x1280 .f32) (harg18 : arg18.IsWhole)
  (B : Ins) (x9 : Vec Ideal S1x1280x512 .f32) (x10 : Vec Ideal S1x1280x64 .f32) (xs0 : Vec Ideal S576x1280 .bf16)
  (xs1 : Vec Ideal S1280x128 .f32) (xs5 : Vec Ideal S64x1280 .f32)

theorem leavesG (hc0 : ¬cond0_0 i) (hc1 : ¬cond0_1 i) (hc2 : ¬cond0_2 i) (hc3 : ¬cond0_3 i) (hc4 : ¬cond0_4 i) (hc5 : cond0_5 i) (hc6 : cond0_6 i)
    (hlo : 79 ≤ (i 1).val) (hhi : (i 1).val ≤ 79) (hkt : xs0 = ktOf B) (hkvr : xs1 = kvrOf B) :
    StepLeaves B (i 1).val False True arg10 arg11 harg11 arg12 harg12 arg13 harg13 arg14 harg14 arg18 harg18 x9 x10 xs0 xs1 xs5
      (runG (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        B.x0 B.x1 B.x2 B.x3 B.x4 B.x5 B.x6 B.x7 x9 x10 xs0 xs1 xs5 hc0 hc1 hc2 hc3 hc4 hc5 hc6).val := by
  subst hkt hkvr
  have H : Loads B _ _ _ _ _ _ := ⟨load_all arg2 harg2 inb_S1x512x576_S1x512x576_0_0_0 (by decide) B.x0,
    load_all arg4 harg4 inb_S1x512x512_S1x512x512_0_0_0 (by decide) B.x2, load_all arg5 harg5 inb_S1x512x512_S1x512x512_0_0_0 (by decide) B.x3,
    load_all arg6 harg6 inb_S1x1x1x512_S1x1x1x512_0_0_0_0 (by decide) B.x4, load_all arg7 harg7 inb_S1x1x1x512_S1x1x1x512_0_0_0_0 (by decide) B.x5,
    load_all arg8 harg8 inb_S1x1x1x512_S1x1x1x512_0_0_0_0 (by decide) B.x6⟩
  have T0 := tile_of B 0 (by omega) arg3 harg3 inb_S1x1280x576_S1x256x576_0_0_0 (scales_of B 0 (by omega) arg14 harg14 inb_S1280x128_S256x128_0_0)
  have T1 := tile_of B 256 (by omega) arg3 harg3 inb_S1x1280x576_S1x256x576_0_256_0 (scales_of B 256 (by omega) arg14 harg14 inb_S1280x128_S256x128_256_0)
  have T2 := tile_of B 512 (by omega) arg3 harg3 inb_S1x1280x576_S1x256x576_0_512_0 (scales_of B 512 (by omega) arg14 harg14 inb_S1280x128_S256x128_512_0)
  have T3 := tile_of B 768 (by omega) arg3 harg3 inb_S1x1280x576_S1x256x576_0_768_0 (scales_of B 768 (by omega) arg14 harg14 inb_S1280x128_S256x128_768_0)
  have T4 := tile_of B 1024 (by omega) arg3 harg3 inb_S1x1280x576_S1x256x576_0_1024_0 (scales_of B 1024 (by omega) arg14 harg14 inb_S1280x128_S256x128_1024_0)
  have Td : Tiles (B.dsq (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.dsq_open T0 _ (by omega))) (H.dsq_open T1 _ (by omega))) (H.dsq_open T2 _ (by omega))) (H.dsq_open T3 _ (by omega))) (H.dsq_last T4 _ (by omega))
  have Tp : Tiles (B.pt (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.pt_open T0 _ (by omega))) (H.pt_open T1 _ (by omega))) (H.pt_open T2 _ (by omega))) (H.pt_open T3 _ (by omega))) (H.pt_last T4 _ (by omega))
  have Ts : Tiles (B.ds (i 1).val) 1280 _ := .cons (inb := inb_S1280x512_S256x512_1024_0) 1024 (by omega) (.cons (inb := inb_S1280x512_S256x512_768_0) 768 (by omega) (.cons (inb := inb_S1280x512_S256x512_512_0) 512 (by omega) (.cons (inb := inb_S1280x512_S256x512_256_0) 256 (by omega) (.cons (inb := inb_S1280x512_S256x512_0_0) 0 (by omega) .nil (H.ds_open T0 _ (by omega))) (H.ds_open T1 _ (by omega))) (H.ds_open T2 _ (by omega))) (H.ds_open T3 _ (by omega))) (H.ds_last T4 _ (by omega))
  have hd : ∀ (d : Fin 64) (k : Fin 1280), _ = dkrtNext B (i 1).val False xs5 (ix2 d k) := fun d k =>
    (dkrt1280 d k (dkrt_rows xs5 1280 (by omega) arg18 harg18 inb_S64x1280_S64x1280_0_0 d k) H.q (Td.load (by omega) arg16 inb_S1280x512_S1280x512_0_0)).trans
      (by simp only [dkrtNext, if_false]; rfl)
  have ld := fun (o : ℕ) (ho : o ≤ 1152) (inb : ∀ j, (![0, o] : Fin 2 → ℕ) j + (![64, 128] : Fin 2 → ℕ) j ≤ S64x1280.size j) (d : Fin 64) (k : Fin 128) =>
    (readCov2 arg18 _ inb_S64x1280_S64x1280_0_0 inb d k (by omega) (by omega)).trans
      ((hd _ _).trans (congrArg (fun a => dkrtNext B (i 1).val False xs5 (ix2 a _)) (Fin.ext (Nat.zero_add _))))
  unfold runG
  dsimp only
  refine ⟨?_, ?_, ?_, ?_, ?_, ?_⟩
  · intro f
    refine (dq_pieces arg10 f _ _ _ _ _ _).trans ?_
    exact dq1280 (by omega) (kt_rows B 1280 (by omega) arg13 harg13 inb_S576x1280_S576x1280_0_0) (Ts.load (by omega) arg15 inb_S1280x512_S1280x512_0_0)
  · refine dc_piece B (i 1).val 1280 (by omega) (by omega) arg11 harg11 x9 _ _ fun k c => ?_
    exact dc1280 k c (dc_rows x9 1280 (by omega) arg11 harg11 inb_S1x1280x512_S1x1280x512_0_0_0 k c) H.q H.g
      (Td.load (by omega) arg16 inb_S1280x512_S1280x512_0_0) (Tp.load (by omega) arg17 inb_S1280x512_S1280x512_0_0)
  · intro _
    exact Cols.read (g := dkrtNext B (i 1).val False xs5) (.cons (inb := inb_S1x1280x64_S1x128x64_0_1152_0) 1152 (by omega) (.cons (inb := inb_S1x1280x64_S1x128x64_0_1024_0) 1024 (by omega) (.cons (inb := inb_S1x1280x64_S1x128x64_0_896_0) 896 (by omega) (.cons (inb := inb_S1x1280x64_S1x128x64_0_768_0) 768 (by omega) (.cons (inb := inb_S1x1280x64_S1x128x64_0_640_0) 640 (by omega) (.cons (inb := inb_S1x1280x64_S1x128x64_0_512_0) 512 (by omega) (.cons (inb := inb_S1x1280x64_S1x128x64_0_384_0) 384 (by omega) (.cons (inb := inb_S1x1280x64_S1x128x64_0_256_0) 256 (by omega) (.cons (inb := inb_S1x1280x64_S1x128x64_0_128_0) 128 (by omega) (.cons (inb := inb_S1x1280x64_S1x128x64_0_0_0) 0 (by omega) .nil (ld 0 (by omega) inb_S64x1280_S64x128_0_0)) (ld 128 (by omega) inb_S64x1280_S64x128_0_128)) (ld 256 (by omega) inb_S64x1280_S64x128_0_256)) (ld 384 (by omega) inb_S64x1280_S64x128_0_384)) (ld 512 (by omega) inb_S64x1280_S64x128_0_512)) (ld 640 (by omega) inb_S64x1280_S64x128_0_640)) (ld 768 (by omega) inb_S64x1280_S64x128_0_768)) (ld 896 (by omega) inb_S64x1280_S64x128_0_896)) (ld 1024 (by omega) inb_S64x1280_S64x128_0_1024)) (ld 1152 (by omega) inb_S64x1280_S64x128_0_1152)) arg12 _
  · rw [View.writes_nil, harg13.read_unread]
  · rw [View.writes_nil, harg14.read_unread]
  · refine dkrt_piece B (i 1).val 1280 (by omega) (by omega) arg18 harg18 xs5 _ _ fun d k => ?_
    exact dkrt1280 d k (dkrt_rows xs5 1280 (by omega) arg18 harg18 inb_S64x1280_S64x1280_0_0 d k) H.q (Td.load (by omega) arg16 inb_S1280x512_S1280x512_0_0)

end Cert.KernelIdeal.Hand
-- ==== Proof.Val.Point.lean ====
/- The blocks a grid point reads, as entries of the arrays the launch finds, and what the body leaves at any point. -/
module

public import proofs.«01_k».proof.Proof.Val.CaseA
public import proofs.«01_k».proof.Proof.Val.CaseB
public import proofs.«01_k».proof.Proof.Val.CaseC
public import proofs.«01_k».proof.Proof.Val.CaseD
public import proofs.«01_k».proof.Proof.Val.CaseE
public import proofs.«01_k».proof.Proof.Val.CaseF
public import proofs.«01_k».proof.Proof.Val.CaseG

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ) (c : Dev nD)

/-- The batch of a point. -/
theorem batch_lt (t : Fin cfg0.N) : t.val / 80 < 8 := by
  have : t.val < 640 := Nat.lt_of_lt_of_eq t.isLt N_0
  omega

theorem step_lt (n : ℕ) : n % 80 < 80 := Nat.mod_lt _ (by decide)

theorem coord0 (t : Fin cfg0.N) : (grid0.coords t 0).val = t.val / 80 :=
  (Pipeline.Grid.coords_val t 0 (by decide) rfl : (grid0.coords t 0).val = t.val / 80 % 8).trans (Nat.mod_eq_of_lt (batch_lt t))

theorem coord1 (t : Fin cfg0.N) : (grid0.coords t 1).val = t.val % 80 :=
  (Pipeline.Grid.coords_val t 1 (by decide) rfl : (grid0.coords t 1).val = t.val / 1 % 80).trans (by rw [Nat.div_one])

theorem word_toNat (n : ℕ) (h : n < 80) : (BitVec.ofNat 32 n).toNat = n := by
  rw [BitVec.toNat_ofNat, Nat.mod_eq_of_lt (by omega)]

theorem word0 (t : Fin cfg0.N) : (BitVec.ofNat 32 (grid0.coords t 0).val).toNat = t.val / 80 := by
  rw [coord0, word_toNat _ (by have := batch_lt t; omega)]

theorem word1 (t : Fin cfg0.N) : (BitVec.ofNat 32 (grid0.coords t 1).val).toNat = t.val % 80 := by
  rw [coord1, word_toNat _ (step_lt _)]

/-- The blocks that a point reads. -/
def Bt (t : Fin cfg0.N) : Ins :=
  ⟨iblk m c 0 t, iblk m c 1 t, iblk m c 2 t, iblk m c 3 t, iblk m c 4 t, iblk m c 5 t, iblk m c 6 t, iblk m c 7 t⟩

/-- Row `r` of step `t`'s block of rows. -/
def rowOf (t : Fin cfg0.N) (r : Fin 512) : Fin 40960 := ⟨512 * (t.val % 80) + r.val, by have := step_lt t.val; omega⟩
/-- The batch of a point. -/
def batchOf (t : Fin cfg0.N) : Fin 8 := ⟨t.val / 80, batch_lt t⟩
/-- The step of a point. -/
def stepOf (t : Fin cfg0.N) : Fin 80 := ⟨t.val % 80, step_lt _⟩

theorem axB (t : Fin cfg0.N) : (BitVec.ofNat 32 (grid0.coords t 0).val).toNat * 1 + 0 = t.val / 80 := by
  rw [word0]; omega
theorem axS (t : Fin cfg0.N) : (BitVec.ofNat 32 (grid0.coords t 1).val).toNat * 1 + 0 = t.val % 80 := by
  rw [word1]; omega
theorem axR (t : Fin cfg0.N) (r : ℕ) : (BitVec.ofNat 32 (grid0.coords t 1).val).toNat * 512 + r = 512 * (t.val % 80) + r := by
  rw [word1, Nat.mul_comm]
theorem axZ (k d : ℕ) : (0#32).toNat * k + d = d := by simp

theorem Bt_x0 (t : Fin cfg0.N) (r : Fin 512) (d : Fin 576) :
    (Bt m c t).x0 (ix3 0 r d) = (V m c main_v0 : Vec Ideal S8x40960x576 .fp8e4m3) (ix3 (batchOf t) (rowOf t r) d) := by
  show (V m c main_v0 : Vec Ideal S8x40960x576 .fp8e4m3) ((win0_0.rect t).emb (ix3 0 r d)) = _
  refine congrArg _ (funext fun a => Fin.ext ?_)
  refine (Pipeline.Window.rect_emb_val win0_0 t (ix3 0 r d) a rfl).trans ?_
  fin_cases a
  · exact axB t
  · exact axR t r
  · exact axZ 576 d

theorem Bt_x1 (t : Fin cfg0.N) (k : Fin 1280) (d : Fin 576) :
    (Bt m c t).x1 (ix3 0 k d) = (V m c main_arg2 : Vec Ideal S8x1280x576 .fp8e4m3) (ix3 (batchOf t) k d) := by
  show (V m c main_arg2 : Vec Ideal S8x1280x576 .fp8e4m3) ((win0_1.rect t).emb (ix3 0 k d)) = _
  refine congrArg _ (funext fun a => Fin.ext ?_)
  refine (Pipeline.Window.rect_emb_val win0_1 t (ix3 0 k d) a rfl).trans ?_
  fin_cases a
  · exact axB t
  · exact axZ 1280 k
  · exact axZ 576 d

theorem Bt_x2 (t : Fin cfg0.N) (r d : Fin 512) :
    (Bt m c t).x2 (ix3 0 r d) = (V m c main_v1 : Vec Ideal S8x40960x512 .bf16) (ix3 (batchOf t) (rowOf t r) d) := by
  show (V m c main_v1 : Vec Ideal S8x40960x512 .bf16) ((win0_2.rect t).emb (ix3 0 r d)) = _
  refine congrArg _ (funext fun a => Fin.ext ?_)
  refine (Pipeline.Window.rect_emb_val win0_2 t (ix3 0 r d) a rfl).trans ?_
  fin_cases a
  · exact axB t
  · exact axR t r
  · exact axZ 512 d

theorem Bt_x3 (t : Fin cfg0.N) (r d : Fin 512) :
    (Bt m c t).x3 (ix3 0 r d) = (V m c main_v2 : Vec Ideal S8x40960x512 .fp8e5m2) (ix3 (batchOf t) (rowOf t r) d) := by
  show (V m c main_v2 : Vec Ideal S8x40960x512 .fp8e5m2) ((win0_3.rect t).emb (ix3 0 r d)) = _
  refine congrArg _ (funext fun a => Fin.ext ?_)
  refine (Pipeline.Window.rect_emb_val win0_3 t (ix3 0 r d) a rfl).trans ?_
  fin_cases a
  · exact axB t
  · exact axR t r
  · exact axZ 512 d

theorem Bt_x4 (t : Fin cfg0.N) (r : Fin 512) :
    (Bt m c t).x4 (ix4 0 0 0 r) = (V m c main_v3 : Vec Ideal S8x80x1x512 .f32) (ix4 (batchOf t) (stepOf t) 0 r) := by
  show (V m c main_v3 : Vec Ideal S8x80x1x512 .f32) ((win0_4.rect t).emb (ix4 0 0 0 r)) = _
  refine congrArg _ (funext fun a => Fin.ext ?_)
  refine (Pipeline.Window.rect_emb_val win0_4 t (ix4 0 0 0 r) a rfl).trans ?_
  fin_cases a
  · exact axB t
  · exact axS t
  · exact axZ 1 0
  · exact axZ 512 r

theorem Bt_x5 (t : Fin cfg0.N) (r : Fin 512) :
    (Bt m c t).x5 (ix4 0 0 0 r) = (V m c main_v4 : Vec Ideal S8x80x1x512 .f32) (ix4 (batchOf t) (stepOf t) 0 r) := by
  show (V m c main_v4 : Vec Ideal S8x80x1x512 .f32) ((win0_5.rect t).emb (ix4 0 0 0 r)) = _
  refine congrArg _ (funext fun a => Fin.ext ?_)
  refine (Pipeline.Window.rect_emb_val win0_5 t (ix4 0 0 0 r) a rfl).trans ?_
  fin_cases a
  · exact axB t
  · exact axS t
  · exact axZ 1 0
  · exact axZ 512 r

theorem Bt_x6 (t : Fin cfg0.N) (r : Fin 512) :
    (Bt m c t).x6 (ix4 0 0 0 r) = (V m c main_v7 : Vec Ideal S8x80x1x512 .f32) (ix4 (batchOf t) (stepOf t) 0 r) := by
  show (V m c main_v7 : Vec Ideal S8x80x1x512 .f32) ((win0_6.rect t).emb (ix4 0 0 0 r)) = _
  refine congrArg _ (funext fun a => Fin.ext ?_)
  refine (Pipeline.Window.rect_emb_val win0_6 t (ix4 0 0 0 r) a rfl).trans ?_
  fin_cases a
  · exact axB t
  · exact axS t
  · exact axZ 1 0
  · exact axZ 512 r

theorem Bt_x7 (t : Fin cfg0.N) (k : Fin 1280) :
    (Bt m c t).x7 (ix3 0 0 k) = (V m c main_v8 : Vec Ideal S8x1x1280 .f32) (ix3 (batchOf t) 0 k) := by
  show (V m c main_v8 : Vec Ideal S8x1x1280 .f32) ((win0_7.rect t).emb (ix3 0 0 k)) = _
  refine congrArg _ (funext fun a => Fin.ext ?_)
  refine (Pipeline.Window.rect_emb_val win0_7 t (ix3 0 0 k) a rfl).trans ?_
  fin_cases a
  · exact axB t
  · exact axZ 1 0
  · exact axZ 1280 k

/-- Two points of a batch read the same keys and the same key scales. -/
theorem x1_same {s t : Fin cfg0.N} (h : s.val / 80 = t.val / 80) (k : Fin 1280) (d : Fin 576) :
    (Bt m c s).x1 (ix3 0 k d) = (Bt m c t).x1 (ix3 0 k d) := by
  rw [Bt_x1, Bt_x1, show batchOf s = batchOf t from Fin.ext h]

theorem x7_same {s t : Fin cfg0.N} (h : s.val / 80 = t.val / 80) (k : Fin 1280) :
    (Bt m c s).x7 (ix3 0 0 k) = (Bt m c t).x7 (ix3 0 0 k) := by
  rw [Bt_x7, Bt_x7, show batchOf s = batchOf t from Fin.ext h]

theorem ktOf_same {s t : Fin cfg0.N} (h : s.val / 80 = t.val / 80) : ktOf (Bt m c s) = ktOf (Bt m c t) :=
  funext fun y => congrArg₂ (fun a b : EReal => a * b) (x1_same m c h (y 1) (y 0)) (x7_same m c h (y 1))

theorem kvrOf_same {s t : Fin cfg0.N} (h : s.val / 80 = t.val / 80) : kvrOf (Bt m c s) = kvrOf (Bt m c t) :=
  funext fun y => x7_same m c h (y 0)

/-- The pieces that the body leaves at a point, and what they amount to. -/
def StepAt (B : Ins) (t : Fin cfg0.N) (x9 : Vec Ideal S1x1280x512 .f32) (x10 : Vec Ideal S1x1280x64 .f32) (xs0 : Vec Ideal S576x1280 .bf16)
    (xs1 : Vec Ideal S1280x128 .f32) (xs5 : Vec Ideal S64x1280 .f32) (L : Pieces Ideal) : Prop :=
  RunSpec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B.x0 B.x1 B.x2 B.x3 B.x4 B.x5 B.x6 B.x7 x9 x10 xs0 xs1 xs5 L
  ∧ StepLeaves B (t.val % 80) (t.val % 80 = 0) (t.val % 80 = 79) (ms0_8 t) (ms0_9 t) (hs0_9 t) (ms0_10 t) (hs0_10 t) scM0_0 (Memref.isWhole_whole _) scM0_1 (Memref.isWhole_whole _) scM0_5 (Memref.isWhole_whole _) x9 x10 xs0 xs1 xs5 L

theorem StepAt.of (B : Ins) (t : Fin cfg0.N) (x9 : Vec Ideal S1x1280x512 .f32) (x10 : Vec Ideal S1x1280x64 .f32) (xs0 : Vec Ideal S576x1280 .bf16)
    (xs1 : Vec Ideal S1280x128 .f32) (xs5 : Vec Ideal S64x1280 .f32) {first last : Prop} [Decidable first] [Decidable last]
    (hf : first ↔ t.val % 80 = 0) (hl : last ↔ t.val % 80 = 79) (X : {L : Pieces Ideal // RunSpec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B.x0 B.x1 B.x2 B.x3 B.x4 B.x5 B.x6 B.x7 x9 x10 xs0 xs1 xs5 L})
    (h : StepLeaves B (grid0.coords t 1).val first last (ms0_8 t) (ms0_9 t) (hs0_9 t) (ms0_10 t) (hs0_10 t) scM0_0 (Memref.isWhole_whole _) scM0_1 (Memref.isWhole_whole _) scM0_5 (Memref.isWhole_whole _) x9 x10 xs0 xs1 xs5 X.val) : ∃ L, StepAt c B t x9 x10 xs0 xs1 xs5 L := by
  obtain rfl := propext hf
  obtain rfl := propext hl
  refine ⟨X.val, X.property, ?_⟩
  rw [coord1] at h
  convert h

/-- What the body leaves at any point: after the first step of a batch the transposed keys and the key scales are the batch's. -/
theorem step_at (B : Ins) (t : Fin cfg0.N) (x9 : Vec Ideal S1x1280x512 .f32) (x10 : Vec Ideal S1x1280x64 .f32) (xs0 : Vec Ideal S576x1280 .bf16)
    (xs1 : Vec Ideal S1280x128 .f32) (xs5 : Vec Ideal S64x1280 .f32) (hk : t.val % 80 ≠ 0 → xs0 = ktOf B ∧ xs1 = kvrOf B) :
    ∃ L, StepAt c B t x9 x10 xs0 xs1 xs5 L := by
  have H0 := hcond0_0 t
  have H1 := hcond0_1 t
  have H2 := hcond0_2 t
  have H3 := hcond0_3 t
  have H4 := hcond0_4 t
  have H5 := hcond0_5 t
  have H6 := hcond0_6 t
  have hc := coord1 t
  have hN := step_lt t.val
  by_cases hA : t.val % 80 = 0
  · exact StepAt.of c B t x9 x10 xs0 xs1 xs5 ⟨fun _ => by omega, fun _ => trivial⟩ ⟨False.elim, fun h => by omega⟩ _
      (leavesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (H0.mpr (by omega)) (H1.mpr (by omega)) (fun h => by have := H2.mp h; omega) (fun h => by have := H3.mp h; omega) (fun h => by have := H4.mp h; omega) (fun h => by have := H5.mp h; omega) (fun h => by have := H6.mp h; omega) (by omega))
  by_cases hB : t.val % 80 ≤ 15
  · have hk := hk hA
    exact StepAt.of c B t x9 x10 xs0 xs1 xs5 ⟨False.elim, fun h => by omega⟩ ⟨False.elim, fun h => by omega⟩ _
      (leavesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (H1.mpr (by omega)) (fun h => by have := H2.mp h; omega) (fun h => by have := H3.mp h; omega) (fun h => by have := H4.mp h; omega) (fun h => by have := H5.mp h; omega) (fun h => by have := H6.mp h; omega) (by omega) (by omega) hk.1 hk.2)
  by_cases hC : t.val % 80 ≤ 31
  · have hk := hk hA
    exact StepAt.of c B t x9 x10 xs0 xs1 xs5 ⟨False.elim, fun h => by omega⟩ ⟨False.elim, fun h => by omega⟩ _
      (leavesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (fun h => by have := H1.mp h; omega) (H2.mpr (by omega)) (fun h => by have := H3.mp h; omega) (fun h => by have := H4.mp h; omega) (fun h => by have := H5.mp h; omega) (fun h => by have := H6.mp h; omega) (by omega) (by omega) hk.1 hk.2)
  by_cases hD : t.val % 80 ≤ 47
  · have hk := hk hA
    exact StepAt.of c B t x9 x10 xs0 xs1 xs5 ⟨False.elim, fun h => by omega⟩ ⟨False.elim, fun h => by omega⟩ _
      (leavesD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (fun h => by have := H1.mp h; omega) (fun h => by have := H2.mp h; omega) (H3.mpr (by omega)) (fun h => by have := H4.mp h; omega) (fun h => by have := H5.mp h; omega) (fun h => by have := H6.mp h; omega) (by omega) (by omega) hk.1 hk.2)
  by_cases hE : t.val % 80 ≤ 63
  · have hk := hk hA
    exact StepAt.of c B t x9 x10 xs0 xs1 xs5 ⟨False.elim, fun h => by omega⟩ ⟨False.elim, fun h => by omega⟩ _
      (leavesE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (fun h => by have := H1.mp h; omega) (fun h => by have := H2.mp h; omega) (fun h => by have := H3.mp h; omega) (H4.mpr (by omega)) (fun h => by have := H5.mp h; omega) (fun h => by have := H6.mp h; omega) (by omega) (by omega) hk.1 hk.2)
  by_cases hF : t.val % 80 ≠ 79
  · have hk := hk hA
    exact StepAt.of c B t x9 x10 xs0 xs1 xs5 ⟨False.elim, fun h => by omega⟩ ⟨False.elim, fun h => by omega⟩ _
      (leavesF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (fun h => by have := H1.mp h; omega) (fun h => by have := H2.mp h; omega) (fun h => by have := H3.mp h; omega) (fun h => by have := H4.mp h; omega) (H5.mpr (by omega)) (fun h => by have := H6.mp h; omega) (by omega) (by omega) hk.1 hk.2)
  · have hk := hk hA
    exact StepAt.of c B t x9 x10 xs0 xs1 xs5 ⟨False.elim, fun h => by omega⟩ ⟨fun _ => by omega, fun _ => trivial⟩ _
      (leavesG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) B x9 x10 xs0 xs1 xs5 (fun h => by have := H0.mp h; omega) (fun h => by have := H1.mp h; omega) (fun h => by have := H2.mp h; omega) (fun h => by have := H3.mp h; omega) (fun h => by have := H4.mp h; omega) (H5.mpr (by omega)) (H6.mpr (by omega)) (by omega) (by omega) hk.1 hk.2)

end Cert.KernelIdeal.Hand
-- ==== Proof.Val.Data.lean ====
/- What the kernel carries from point to point: the accumulated gradients as sums over the steps of a batch, the
   transposed keys and the key scales, and the pipeline's proof data that say so. -/
module

public import proofs.«01_k».proof.Proof.Val.Point
public import Idealize.ShloMosaic.Lib.Pipeline.DatRel
public import Idealize.ShloMosaic.Lib.Pipeline.Covers

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (c : Dev nD)

/-- The point of a number. -/
def ptAt (n : ℕ) : Fin cfg0.N := ⟨n % 640, Nat.lt_of_lt_of_eq (Nat.mod_lt _ (by decide)) N_0.symm⟩

theorem ptAt_val (t : Fin cfg0.N) : ptAt t.val = t :=
  Fin.ext (Nat.mod_eq_of_lt (Nat.lt_of_lt_of_eq t.isLt N_0))

/-- The rotary gradient that the steps of the point's batch have added up to the point. -/
def dkrSum (n : ℕ) (d : Fin 64) (k : Fin 1280) : EReal :=
  ∑ s ∈ Finset.range (n % 80 + 1), (Bt m c (ptAt (n / 80 * 80 + s))).dkrAdd s d k
/-- The latent gradient that the steps of the point's batch have added up to the point. -/
def dcSum (n : ℕ) (k : Fin 1280) (d : Fin 512) : EReal :=
  ∑ s ∈ Finset.range (n % 80 + 1), (Bt m c (ptAt (n / 80 * 80 + s))).dcAdd s k d

def dkrtAt (n : ℕ) : Vec Ideal S64x1280 .f32 := fun y => dkrSum m c n (y 0) (y 1)
def dcAt (n : ℕ) : Vec Ideal S1x1280x512 .f32 := fun y => dcSum m c n (y 1) (y 2)
/-- The rotary gradient as the last step of a batch writes it. -/
def dkrAt (n : ℕ) : Vec Ideal S1x1280x64 .f32 := fun y => dkrSum m c n (y 2) (y 1)

/-- A sum over a batch's steps up to a point, one step split off. -/
theorem sum_step (f : ℕ → ℕ → EReal) (n : ℕ) :
    ∑ s ∈ Finset.range (n % 80 + 1), f (n / 80 * 80 + s) s
      = (if n % 80 = 0 then 0 else ∑ s ∈ Finset.range ((n - 1) % 80 + 1), f ((n - 1) / 80 * 80 + s) s) + f n (n % 80) := by
  rw [Finset.sum_range_succ, show n / 80 * 80 + n % 80 = n by omega]
  congr 1
  split_ifs with h
  · rw [h]; rfl
  · rw [show (n - 1) % 80 + 1 = n % 80 by omega, show (n - 1) / 80 = n / 80 by omega]

theorem dkrt_next (t : Fin cfg0.N) (x : Vec Ideal S64x1280 .f32) (hx : t.val % 80 ≠ 0 → x = dkrtAt m c (t.val - 1)) :
    dkrtNext (Bt m c t) (t.val % 80) (t.val % 80 = 0) x = dkrtAt m c t.val := by
  funext y
  refine Eq.trans ?_ (sum_step (fun n s => (Bt m c (ptAt n)).dkrAdd s (y 0) (y 1)) t.val).symm
  rw [ptAt_val]
  refine congrArg (· + (Bt m c t).dkrAdd (t.val % 80) (y 0) (y 1)) ?_
  split_ifs with h
  · rfl
  · rw [hx h]; rfl

theorem dc_next (t : Fin cfg0.N) (x : Vec Ideal S1x1280x512 .f32) (hx : t.val % 80 ≠ 0 → x = dcAt m c (t.val - 1)) :
    dcNext (Bt m c t) (t.val % 80) (t.val % 80 = 0) x = dcAt m c t.val := by
  funext y
  refine Eq.trans ?_ (sum_step (fun n s => (Bt m c (ptAt n)).dcAdd s (y 1) (y 2)) t.val).symm
  rw [ptAt_val]
  refine congrArg (· + (Bt m c t).dcAdd (t.val % 80) (y 1) (y 2)) ?_
  split_ifs with h
  · rfl
  · rw [hx h]; rfl

theorem dkr_next (t : Fin cfg0.N) (x : Vec Ideal S64x1280 .f32) (hx : t.val % 80 ≠ 0 → x = dkrtAt m c (t.val - 1)) :
    (fun y : S1x1280x64.Idx => dkrtNext (Bt m c t) (t.val % 80) (t.val % 80 = 0) x (ix2 (y 2) (y 1))) = dkrAt m c t.val := by
  rw [dkrt_next m c t x hx]; rfl

/-! ## The invariant -/

/-- Before any point the scratch at anything; after point `n` the transposed keys, the key scales and the rotary
    accumulator at what the point leaves, the rest at anything. -/
def PhiS : (n : ℕ) → n ≤ cfg0.N → sProp 𝕄
  | 0, _ => Pipeline.ΦA spec0 c
  | n + 1, _ => iprop(iprop(owns (c : Thread nD τ) scM0_0 fullShare (ktOf (Bt m c (ptAt n))) ∗ owns (c : Thread nD τ) scM0_1 fullShare (kvrOf (Bt m c (ptAt n))) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (dkrtAt m c n)) ∗ (∃ r, prngReg c r))

theorem PhiS_zero (n : ℕ) (h : n ≤ cfg0.N) (hz : n = 0) : PhiS m c n h = Pipeline.ΦA spec0 c := by
  subst hz; rfl

theorem PhiS_succ (n : ℕ) (hn : n < cfg0.N) :
    PhiS m c (n + 1) hn = iprop(iprop(owns (c : Thread nD τ) scM0_0 fullShare (ktOf (Bt m c (ptAt n))) ∗ owns (c : Thread nD τ) scM0_1 fullShare (kvrOf (Bt m c (ptAt n))) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (dkrtAt m c n)) ∗ (∃ r, prngReg c r)) := rfl

theorem PhiS_pos (n : ℕ) (h : n ≤ cfg0.N) (hz : n ≠ 0) :
    PhiS m c n h = iprop(iprop(owns (c : Thread nD τ) scM0_0 fullShare (ktOf (Bt m c (ptAt (n - 1)))) ∗ owns (c : Thread nD τ) scM0_1 fullShare (kvrOf (Bt m c (ptAt (n - 1)))) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (dkrtAt m c (n - 1))) ∗ (∃ r, prngReg c r)) := by
  cases n with
  | zero => exact absurd rfl hz
  | succ n => rfl

/-- What the invariant gives a point: the followed scratch at some contents, which after a batch's first step are known. -/
def Carried (t : Fin cfg0.N) (xs0 : Vec Ideal S576x1280 .bf16) (xs1 : Vec Ideal S1280x128 .f32) (xs5 : Vec Ideal S64x1280 .f32) : Prop :=
  (t.val % 80 ≠ 0 → xs0 = ktOf (Bt m c t) ∧ xs1 = kvrOf (Bt m c t)) ∧ (t.val % 80 ≠ 0 → xs5 = dkrtAt m c (t.val - 1))

theorem Phi_in (t : Fin cfg0.N) :
    PhiS m c t.val (Nat.le_of_lt t.isLt) ⊢ iprop(∃ (xs0 : Vec Ideal S576x1280 .bf16) (xs1 : Vec Ideal S1280x128 .f32) (xs5 : Vec Ideal S64x1280 .f32),
      ⌜Carried m c t xs0 xs1 xs5⌝ ∗ iprop(iprop(owns (c : Thread nD τ) scM0_0 fullShare xs0 ∗ owns (c : Thread nD τ) scM0_1 fullShare xs1 ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare xs5) ∗ (∃ r, prngReg c r))) := by
  by_cases hz : t.val = 0
  · rw [PhiS_zero m c _ _ hz, PhiA0_eq]
    iintro ⟨⟨⟨%a, HS0⟩, ⟨%b, HS1⟩, HS2, HS3, HS4, ⟨%e, HS5⟩⟩, Hg⟩
    iexists a, b, e
    isplitr
    · ipureintro; exact ⟨fun h => absurd (by omega) h, fun h => absurd (by omega) h⟩
    isplitr [Hg]
    · isplitl [HS0]; · iexact HS0
      isplitl [HS1]; · iexact HS1
      isplitl [HS2]; · iexact HS2
      isplitl [HS3]; · iexact HS3
      isplitl [HS4]; · iexact HS4
      iexact HS5
    iexact Hg
  · rw [PhiS_pos m c _ _ hz]
    iintro ⟨⟨HS0, HS1, HS2, HS3, HS4, HS5⟩, Hg⟩
    iexists _, _, _
    isplitr
    swap
    · isplitr [Hg]
      · isplitl [HS0]; · iexact HS0
        isplitl [HS1]; · iexact HS1
        isplitl [HS2]; · iexact HS2
        isplitl [HS3]; · iexact HS3
        isplitl [HS4]; · iexact HS4
        iexact HS5
      iexact Hg
    ipureintro
    have hp : t.val % 80 ≠ 0 → (ptAt (t.val - 1)).val / 80 = t.val / 80 := fun h => by
      have : t.val < 640 := Nat.lt_of_lt_of_eq t.isLt N_0
      show (t.val - 1) % 640 / 80 = _
      omega
    exact ⟨fun h => ⟨ktOf_same m c (hp h), kvrOf_same m c (hp h)⟩, fun _ => rfl⟩

/-! ## The pipeline's proof data -/

/-- The proof data of the one pipeline on core `c`: the arrays as the region finds them; after the body each input's
    buffer at its block, the queries' gradient at the step's, the latent gradient at the batch's sum so far; the rotary
    output, written at a batch's last step only, is held to a condition (`Rl`). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOf (Bt m c t) (t.val % 80)
    | ⟨9, _⟩ => dcAt m c t.val
    | ⟨10, _⟩ => dkrAt m c t.val
  Φ t := PhiS m c t.val (Nat.le_of_lt_succ t.isLt)
  q _ := fullShare
  owed _ := 0

/-- The window held to a condition: the rotary output. -/
def marked : Fin 11 → Bool := fun w => w.val == 10

/-- At a batch's last step the rotary output is the batch's sum. -/
def Rl (c : Dev nD) (w : Fin cfg0.W) (t : Fin cfg0.N) (X : (cfg0.win w).block.Idx → Elt Ideal (cfg0.win w).elt) : Prop :=
  t.val % 80 = 79 → X = (dats m 0 c).after w t

theorem A_eq (c : Dev nD) (w : Fin cfg0.W) : (dats m 0 c).A w = V m c (Pipeline.arrRef spec0 w) := by
  dsimp only [dats]

theorem PhiS_castSucc (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqOf (Bt m c t) (t.val % 80) := by dsimp only [dats]
theorem after0_9 (c : Dev nD) (t : Fin cfg0.N) : (dats m 0 c).after 9 t = dcAt m c t.val := by dsimp only [dats]
theorem after0_10 (c : Dev nD) (t : Fin cfg0.N) : (dats m 0 c).after 10 t = dkrAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The queries' and the latent outputs are written at every point. -/
theorem live8 (t : Fin cfg0.N) : cfg0.idle 8 (grid0.coords t) = false :=
  (by decide +kernel : ∀ t : Fin grid0.N, idle0 8 (grid0.coords t) = false) t
theorem live9 (t : Fin cfg0.N) : cfg0.idle 9 (grid0.coords t) = false :=
  (by decide +kernel : ∀ t : Fin grid0.N, idle0 9 (grid0.coords t) = false) t
theorem live9' (i : cfg0.grid.Coords) : cfg0.idle 9 i = false := by
  obtain ⟨t, rfl⟩ := Pipeline.Grid.coords_surjective grid0 i
  exact live9 t

/-- After a batch's first step the latent output's buffer holds the batch's sum so far. -/
theorem before0_9 (c : Dev nD) (t : Fin cfg0.N) (h : t.val % 80 ≠ 0) (d) : (dats m 0 c).before 9 t d = dcAt m c (t.val - 1) := by
  have ht : t.val ≠ 0 := fun e => h (by omega)
  refine ((dats m 0 c).before_out_kept 9 rfl t ht ?_ live9' (fun _ _ => rfl) d).trans (after0_9 m c _)
  refine Bool.eq_false_iff.mpr fun e => ?_
  have := (flush0_9 _).mp e
  dsimp only at this
  omega

end Cert.KernelIdeal.Hand
-- ==== Proof.Val.Body.lean ====
/- The body obligation: from what a point finds, the body leaves what the proof data say. -/
module

public import proofs.«01_k».proof.Proof.Val.Data

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (c : Dev nD)

/-- A whole buffer held at contents, as its raw contents. -/
theorem owns_raw {s : Shape} {e : EltTy} (M : Memref sig .tc .vmem s e) (h : M.IsWhole) (X : Vec Ideal s e) :
    (owns (c : Thread nD τ) M fullShare X : sProp 𝕄) ⊢ (M.view.loc (c : Thread nD τ) ↦[M.view.set]{fullShare} h.unread X) := by
  unfold owns
  iintro ⟨%f, %hf, H⟩
  rw [← h.eq_unread hf]
  iexact H

/-- Raw contents that read `X`, as the buffer held at `X`. -/
theorem raw_owns {s : Shape} {e : EltTy} (M : Memref sig .tc .vmem s e) (f : M.view.ty.Contents (Elt Ideal)) (X : Vec Ideal s e)
    (hf : M.view.read (Elt Ideal) f = X) :
    ((M.view.loc (c : Thread nD τ) ↦[M.view.set]{fullShare} f) : sProp 𝕄) ⊢ owns (c : Thread nD τ) M fullShare X := by
  unfold owns
  iintro H
  iexists f
  isplitr
  · ipureintro; exact hf
  iexact H

theorem owns_some {s : Shape} {e : EltTy} (M : Memref sig .tc .vmem s e) (X : Vec Ideal s e) :
    (owns (c : Thread nD τ) M fullShare X : sProp 𝕄) ⊢ iprop(∃ f, M.view.loc (c : Thread nD τ) ↦[M.view.set]{fullShare} f) := by
  unfold owns
  iintro ⟨%f, %hf, H⟩
  iexists f
  iexact H

theorem some_owns {s : Shape} {e : EltTy} (M : Memref sig .tc .vmem s e) :
    (iprop(∃ f, M.view.loc (c : Thread nD τ) ↦[M.view.set]{fullShare} f) : sProp 𝕄) ⊢ iprop(∃ d : Vec Ideal s e, owns (c : Thread nD τ) M fullShare d) := by
  unfold owns
  iintro ⟨%f, H⟩
  iexists _, f
  isplitr
  swap; · iexact H
  ipureintro; rfl

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜((dats m 0 c).toRRel marked (Rl m c)).Finds 10 t Y⌝ ∗ owns (c : Thread nD τ) (ms0_10 t) fullShare Y))

/-- and what it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X))

/-- The body's triple on buffers held at contents. -/
theorem run_owns (B : Ins) (t : Fin cfg0.N) (x9 : Vec Ideal S1x1280x512 .f32) (x10 : Vec Ideal S1x1280x64 .f32) (xs0 : Vec Ideal S576x1280 .bf16)
    (xs1 : Vec Ideal S1280x128 .f32) (xs5 : Vec Ideal S64x1280 .f32) (hk : t.val % 80 ≠ 0 → xs0 = ktOf B ∧ xs1 = kvrOf B) (K : PUnit → sProp 𝕄) :
    iprop(owns (c : Thread nD τ) (ms0_0 t) fullShare B.x0
      ∗ owns (c : Thread nD τ) (ms0_1 t) fullShare B.x1
      ∗ owns (c : Thread nD τ) (ms0_2 t) fullShare B.x2
      ∗ owns (c : Thread nD τ) (ms0_3 t) fullShare B.x3
      ∗ owns (c : Thread nD τ) (ms0_4 t) fullShare B.x4
      ∗ owns (c : Thread nD τ) (ms0_5 t) fullShare B.x5
      ∗ owns (c : Thread nD τ) (ms0_6 t) fullShare B.x6
      ∗ owns (c : Thread nD τ) (ms0_7 t) fullShare B.x7
      ∗ (∃ d, owns (c : Thread nD τ) (ms0_8 t) fullShare d)
      ∗ owns (c : Thread nD τ) (ms0_9 t) fullShare x9
      ∗ owns (c : Thread nD τ) (ms0_10 t) fullShare x10
      ∗ owns (c : Thread nD τ) scM0_0 fullShare xs0
      ∗ owns (c : Thread nD τ) scM0_1 fullShare xs1
      ∗ (∃ d, owns (c : Thread nD τ) scM0_2 fullShare d)
      ∗ (∃ d, owns (c : Thread nD τ) scM0_3 fullShare d)
      ∗ (∃ d, owns (c : Thread nD τ) scM0_4 fullShare d)
      ∗ owns (c : Thread nD τ) scM0_5 fullShare xs5
      ∗ (iprop(owns (c : Thread nD τ) (ms0_0 t) fullShare B.x0
      ∗ owns (c : Thread nD τ) (ms0_1 t) fullShare B.x1
      ∗ owns (c : Thread nD τ) (ms0_2 t) fullShare B.x2
      ∗ owns (c : Thread nD τ) (ms0_3 t) fullShare B.x3
      ∗ owns (c : Thread nD τ) (ms0_4 t) fullShare B.x4
      ∗ owns (c : Thread nD τ) (ms0_5 t) fullShare B.x5
      ∗ owns (c : Thread nD τ) (ms0_6 t) fullShare B.x6
      ∗ owns (c : Thread nD τ) (ms0_7 t) fullShare B.x7
      ∗ owns (c : Thread nD τ) (ms0_8 t) fullShare (dqOf B (t.val % 80))
      ∗ owns (c : Thread nD τ) (ms0_9 t) fullShare (dcNext B (t.val % 80) (t.val % 80 = 0) x9)
      ∗ (∃ X, ⌜t.val % 80 = 79 → X = fun y => dkrtNext B (t.val % 80) (t.val % 80 = 0) xs5 (ix2 (y 2) (y 1))⌝ ∗ owns (c : Thread nD τ) (ms0_10 t) fullShare X)
      ∗ owns (c : Thread nD τ) scM0_0 fullShare (ktOf B)
      ∗ owns (c : Thread nD τ) scM0_1 fullShare (kvrOf B)
      ∗ (∃ d, owns (c : Thread nD τ) scM0_2 fullShare d)
      ∗ (∃ d, owns (c : Thread nD τ) scM0_3 fullShare d)
      ∗ (∃ d, owns (c : Thread nD τ) scM0_4 fullShare d)
      ∗ owns (c : Thread nD τ) scM0_5 fullShare (dkrtNext B (t.val % 80) (t.val % 80 = 0) xs5)) -∗ K ⟨⟩))
    ⊢ wp frame (wpE (defs₀ (F := Ideal)) Variants.none c none) Set.univ (bodyAt0 t) K := by
  obtain ⟨L, hrun, hL⟩ := step_at c B t x9 x10 xs0 xs1 xs5 hk
  unfold bodyAt0
  iintro ⟨H0, H1, H2, H3, H4, H5, H6, H7, ⟨%dH8, H8⟩, H9, H10, S0, S1, ⟨%dS2, S2⟩, ⟨%dS3, S3⟩, ⟨%dS4, S4⟩, S5, HK⟩
  iapply (hrun Set.univ K)
  isplitl [H0]; · iapply (owns_raw c _ _ _); iexact H0
  isplitl [H1]; · iapply (owns_raw c _ _ _); iexact H1
  isplitl [H2]; · iapply (owns_raw c _ _ _); iexact H2
  isplitl [H3]; · iapply (owns_raw c _ _ _); iexact H3
  isplitl [H4]; · iapply (owns_raw c _ _ _); iexact H4
  isplitl [H5]; · iapply (owns_raw c _ _ _); iexact H5
  isplitl [H6]; · iapply (owns_raw c _ _ _); iexact H6
  isplitl [H7]; · iapply (owns_raw c _ _ _); iexact H7
  isplitl [H8]; · iapply (owns_some c _ _); iexact H8
  isplitl [H9]; · iapply (owns_raw c _ _ _); iexact H9
  isplitl [H10]; · iapply (owns_raw c _ _ _); iexact H10
  isplitl [S0]; · iapply (owns_raw c _ _ _); iexact S0
  isplitl [S1]; · iapply (owns_raw c _ _ _); iexact S1
  isplitl [S2]; · iapply (owns_some c _ _); iexact S2
  isplitl [S3]; · iapply (owns_some c _ _); iexact S3
  isplitl [S4]; · iapply (owns_some c _ _); iexact S4
  isplitl [S5]; · iapply (owns_raw c _ _ _); iexact S5
  iintro ⟨H0, H1, H2, H3, H4, H5, H6, H7, ⟨%f8, H8⟩, H9, H10, S0, S1, S2, S3, S4, S5⟩
  iapply HK
  isplitl [H0]; · iapply (raw_owns c _ _ _ (Memref.IsWhole.read_unread _ _)); iexact H0
  isplitl [H1]; · iapply (raw_owns c _ _ _ (Memref.IsWhole.read_unread _ _)); iexact H1
  isplitl [H2]; · iapply (raw_owns c _ _ _ (Memref.IsWhole.read_unread _ _)); iexact H2
  isplitl [H3]; · iapply (raw_owns c _ _ _ (Memref.IsWhole.read_unread _ _)); iexact H3
  isplitl [H4]; · iapply (raw_owns c _ _ _ (Memref.IsWhole.read_unread _ _)); iexact H4
  isplitl [H5]; · iapply (raw_owns c _ _ _ (Memref.IsWhole.read_unread _ _)); iexact H5
  isplitl [H6]; · iapply (raw_owns c _ _ _ (Memref.IsWhole.read_unread _ _)); iexact H6
  isplitl [H7]; · iapply (raw_owns c _ _ _ (Memref.IsWhole.read_unread _ _)); iexact H7
  isplitl [H8]; · iapply (raw_owns c _ _ _ (hL.dq f8)); iexact H8
  isplitl [H9]; · iapply (raw_owns c _ _ _ hL.dc); iexact H9
  isplitl [H10]; · iexists _; isplitr; (swap; · iapply (raw_owns c _ _ _ rfl); iexact H10); ipureintro; exact hL.dkr
  isplitl [S0]; · iapply (raw_owns c _ _ _ hL.kt); iexact S0
  isplitl [S1]; · iapply (raw_owns c _ _ _ hL.kvr); iexact S1
  isplitl [S2]; · iapply (some_owns c _); iexact S2
  isplitl [S3]; · iapply (some_owns c _); iexact S3
  isplitl [S4]; · iapply (some_owns c _); iexact S4
  iapply (raw_owns c _ _ _ hL.dkrt); iexact S5

/-- The body at any point. -/
theorem sound_body (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7]
  rw [after0_0, after0_1, after0_2, after0_3, after0_4, after0_5, after0_6, after0_7, after0_8, after0_9]
  rw [show (dats m 0 c).owesAt () t.succ = (dats m 0 c).owesAt () t.castSucc from rfl]
  rw [show (dats m 0 c).Φ t.succ = PhiS m c (t.val + 1) t.isLt from rfl, PhiS_succ, PhiS_castSucc, ptAt_val]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩⟩
  icases (Phi_in m c t) $$ HΦ with ⟨%xs0, %xs1, %xs5, %hC, ⟨⟨S0, S1, S2, S3, S4, S5⟩, Hg⟩⟩
  rw [← dkrt_next m c t xs5 hC.2, ← dc_next m c t ((dats m 0 c).before 9 t d9) (fun h => before0_9 m c t h d9)]
  iapply (run_owns c (Bt m c t) t ((dats m 0 c).before 9 t d9) Y xs0 xs1 xs5 hC.1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, ⟨%X, %hX, H10⟩, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists X
  isplitr
  · ipureintro
    exact fun h => ((hX h).trans (dkr_next m c t xs5 hC.2)).trans (after0_10 m c t).symm
  iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation : Pipeline.BodyObligationRel (dats m 0 c) (defs₀ (F := Ideal)) Variants.none () Set.univ marked (Rl m c) := fun t => by
  rw [bigSep_W0, bigSep_W0, defs₀_row]
  rw [live8 t, live9 t]
  exact triple_restated (sound_body m c t) rfl .rfl fun _ => .rfl

end Cert.KernelIdeal.Hand
-- ==== Proof.Val.Launch.lean ====
/- The launch: every run of the kernel ends, its arguments as they were, its results at the proof data's values. -/
module

public import proofs.«01_k».proof.Proof.Val.Body
public import Idealize.ShloMosaic.Lib.Pipeline.ArrRel
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 640 := N_0
  rw [show (dats m 0 c).Φ (Fin.last cfg0.N) = PhiS m c cfg0.N le_rfl from rfl, PhiS_pos m c _ _ (by omega), PhiA0_eq]
  iintro ⟨⟨S0, S1, S2, S3, S4, S5⟩, Hg⟩
  isplitr [Hg]
  · isplitl [S0]; · iexists _; iexact S0
    isplitl [S1]; · iexists _; iexact S1
    isplitl [S2]; · iexact S2
    isplitl [S3]; · iexact S3
    isplitl [S4]; · iexact S4
    iexists _; iexact S5
  iexact Hg

/-- The proof data read relationally. -/
def rdat (c : Dev nD) : Pipeline.RDat τ (Elt Ideal) Unit ℕ (UR sig nD τ) ℕ cfg0 c := (dats m 0 c).toRRel marked (Rl m c)

set_option backward.isDefEq.respectTransparency.types false in
/-- The launch: every fair run of the kernel ends, with every counter at zero. -/
theorem run_quiescent : θ_run defs (onTc (τ := τ) (main (F := Ideal))) (s₀ m ρ)
    (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The arguments end as they were. -/
theorem args_same {r : PUnit × MemSt nD τ sig (Elt Ideal)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- Every run ends, its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_same m h.1, h.2⟩) (run_quiescent m ρ)

/-! ## The arrays the kernel leaves -/

/-- The queries' gradient, the latent gradient and the rotary gradient, as arrays. -/
def out0 (c : Dev nD) : Vec Ideal S8x40960x576 .bf16 := fun y =>
  (Bt m c (ptAt (80 * (y 0).val + (y 1).val / 512))).dq ((y 1).val / 512) ⟨(y 1).val % 512, Nat.mod_lt _ (by decide)⟩ (y 2)
def out1 (c : Dev nD) : Vec Ideal S8x1280x512 .f32 := fun y => dcSum m c (80 * (y 0).val + 79) (y 1) (y 2)
def out2 (c : Dev nD) : Vec Ideal S8x1280x64 .f32 := fun y => dkrSum m c (80 * (y 0).val + 79) (y 2) (y 1)

/-- An array whose blocks, each read at what the body may have left there, are the blocks of `G`, is `G`. -/
theorem arr_of {r : PUnit × MemSt nD τ sig (Elt Ideal)} (h : Pipeline.RDat.FramePost (cfgs 0) (rdat m) (V m) r) (c : Dev nD) (w : Fin cfg0.W)
    (G : Buf (Elt Ideal) ((cfg0.win w).arr.view.loc (c.tc : Thread nD τ)))
    (hG : ∀ t X, (cfg0.win w).flush t = true → (rdat m c).Leaves w t X → (cfg0.win w).cut (cfg0.grid.coords t) X = ((cfg0.win w).blk t).view.read (Elt Ideal) G)
    (hcover : ∀ i : ((cfg0.win w).arr.view.loc (c.tc : Thread nD τ)).2.ty.Idx,
      ∃ t : Fin cfg0.N, (cfg0.win w).flush t = true ∧ i ∈ ((cfg0.win w).blk t).view.set) :
    r.2.mem ((cfg0.spec w).arr.view.loc (c.tc : Thread nD τ)) = G := by
  obtain ⟨after, hL, hA⟩ := Pipeline.RDat.FramePost.exists_exact h c
  exact (hA w).trans (Dat.arrAt_eq_of_cover _ w G (fun t hf => hG t _ hf (hL w t hf)) hcover)

end Cert.KernelIdeal.Hand
-- ==== Proof.Val.Arrays.lean ====
/- The three result arrays of the kernel, entry by entry, in the closed form of the blocks read at each point. -/
module

public import proofs.«01_k».proof.Proof.Val.Launch
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- A write-back of the key windows falls on the last step of a batch. -/
theorem flush10_last : ∀ t : Fin cfg0.N, (cfg0.win 10).flush t = true → t.val % 80 = 79 :=
  (by decide +kernel : ∀ t : Fin grid0.N, win0_10.flush t = true → t.val % 80 = 79)
theorem flush9_last : ∀ t : Fin cfg0.N, (cfg0.win 9).flush t = true → t.val % 80 = 79 :=
  (by decide +kernel : ∀ t : Fin grid0.N, win0_9.flush t = true → t.val % 80 = 79)

theorem covers8 : win0_8.Covers := by decide +kernel
theorem covers9 : win0_9.Covers := by decide +kernel
theorem covers10 : win0_10.Covers := by decide +kernel

theorem leaves8 (t : Fin cfg0.N) (X) (h : (rdat m c).Leaves 8 t X) : X = (dats m 0 c).after 8 t := by
  obtain ⟨Y, -, h⟩ := h
  rw [rdat, Dat.toRRel_after_of_eq_false _ (show marked 8 = false from rfl)] at h
  exact (Dat.Leaves.live_iff (w := 8) (t := t) (dats m 0 c) (.inl (live8 t))).mp h
theorem leaves9 (t : Fin cfg0.N) (X) (h : (rdat m c).Leaves 9 t X) : X = (dats m 0 c).after 9 t := by
  obtain ⟨Y, -, h⟩ := h
  rw [rdat, Dat.toRRel_after_of_eq_false _ (show marked 9 = false from rfl)] at h
  exact (Dat.Leaves.live_iff (w := 9) (t := t) (dats m 0 c) (.inl (live9 t))).mp h
theorem leaves10 (t : Fin cfg0.N) (X) (h : (rdat m c).Leaves 10 t X) (ht : t.val % 80 = 79) : X = (dats m 0 c).after 10 t :=
  Dat.toRRel_leaves (w := 10) (dats m 0 c) rfl h ht

/-- Where an entry of the block of the queries' gradient lies in its array. -/
theorem emb8 (t : Fin cfg0.N) (r : Fin 512) (d : Fin 576) :
    (win0_8.rect t).emb (ix3 0 r d) = (ix3 (batchOf t) (rowOf t r) d : S8x40960x576.Idx) := by
  refine funext fun a => Fin.ext ?_
  refine (Pipeline.Window.rect_emb_val win0_8 t (ix3 0 r d) a rfl).trans ?_
  fin_cases a
  · exact axB t
  · exact axR t r
  · exact axZ 576 d
theorem emb9 (t : Fin cfg0.N) (k : Fin 1280) (d : Fin 512) :
    (win0_9.rect t).emb (ix3 0 k d) = (ix3 (batchOf t) k d : S8x1280x512.Idx) := by
  refine funext fun a => Fin.ext ?_
  refine (Pipeline.Window.rect_emb_val win0_9 t (ix3 0 k d) a rfl).trans ?_
  fin_cases a
  · exact axB t
  · exact axZ 1280 k
  · exact axZ 512 d
theorem emb10 (t : Fin cfg0.N) (k : Fin 1280) (d : Fin 64) :
    (win0_10.rect t).emb (ix3 0 k d) = (ix3 (batchOf t) k d : S8x1280x64.Idx) := by
  refine funext fun a => Fin.ext ?_
  refine (Pipeline.Window.rect_emb_val win0_10 t (ix3 0 k d) a rfl).trans ?_
  fin_cases a
  · exact axB t
  · exact axZ 1280 k
  · exact axZ 64 d

theorem out0_at (t : Fin cfg0.N) (r : Fin 512) (d : Fin 576) :
    out0 m c (ix3 (batchOf t) (rowOf t r) d) = (Bt m c t).dq (t.val % 80) r d := by
  have hr := r.isLt
  have h1 : (512 * (t.val % 80) + r.val) / 512 = t.val % 80 := by omega
  have h2 : (512 * (t.val % 80) + r.val) % 512 = r.val := by omega
  have h3 : ptAt (80 * (t.val / 80) + (512 * (t.val % 80) + r.val) / 512) = t := by
    refine Fin.ext ?_
    rw [h1, Nat.div_add_mod]
    exact congrArg Fin.val (ptAt_val t)
  show (Bt m c (ptAt (80 * (t.val / 80) + (512 * (t.val % 80) + r.val) / 512))).dq ((512 * (t.val % 80) + r.val) / 512) ⟨(512 * (t.val % 80) + r.val) % 512, _⟩ d = _
  rw [h3]
  have hf : ∀ (n n' : ℕ) (q q' : Fin 512), n = n' → q = q' → (Bt m c t).dq n q d = (Bt m c t).dq n' q' d := by
    rintro _ _ _ _ rfl rfl; rfl
  exact hf _ _ _ _ h1 (Fin.ext h2)

theorem last_point (t : Fin cfg0.N) (ht : t.val % 80 = 79) : 80 * (t.val / 80) + 79 = t.val := by omega

theorem out1_at (t : Fin cfg0.N) (ht : t.val % 80 = 79) (k : Fin 1280) (d : Fin 512) :
    out1 m c (ix3 (batchOf t) k d) = dcSum m c t.val k d :=
  congrArg (fun n => dcSum m c n k d) (last_point t ht)
theorem out2_at (t : Fin cfg0.N) (ht : t.val % 80 = 79) (k : Fin 1280) (d : Fin 64) :
    out2 m c (ix3 (batchOf t) k d) = dkrSum m c t.val d k :=
  congrArg (fun n => dkrSum m c n d k) (last_point t ht)

variable {r : PUnit × MemSt nD τ sig (Elt Ideal)}

theorem res0 (h : Pipeline.RDat.FramePost (cfgs 0) (rdat m) (V m) r) : r.2.mem ((c.tc : Thread nD τ).loc main_v9_0) = out0 m c :=
  arr_of m h c 8 (out0 m c) (fun t X _ hL => by
    rw [leaves8 m c t X hL]
    refine funext fun (y : S1x512x576.Idx) => ?_
    obtain ⟨r', d, rfl⟩ : ∃ r' d, y = ix3 0 r' d := ⟨y 1, y 2, (eq_ix3 y).trans (congrArg (ix3 · (y 1) (y 2)) (Subsingleton.elim _ _))⟩
    show (dats m 0 c).after 8 t (ix3 0 r' d) = out0 m c ((win0_8.rect t).emb (ix3 0 r' d))
    rw [emb8, out0_at, after0_8]; rfl) (Window.Covers.cover win0_8 covers8 (arr_whole0 8))

theorem res1 (h : Pipeline.RDat.FramePost (cfgs 0) (rdat m) (V m) r) : r.2.mem ((c.tc : Thread nD τ).loc main_v9_1) = out1 m c :=
  arr_of m h c 9 (out1 m c) (fun t X hf hL => by
    rw [leaves9 m c t X hL]
    refine funext fun (y : S1x1280x512.Idx) => ?_
    obtain ⟨k, d, rfl⟩ : ∃ k d, y = ix3 0 k d := ⟨y 1, y 2, (eq_ix3 y).trans (congrArg (ix3 · (y 1) (y 2)) (Subsingleton.elim _ _))⟩
    show (dats m 0 c).after 9 t (ix3 0 k d) = out1 m c ((win0_9.rect t).emb (ix3 0 k d))
    rw [emb9, out1_at m c t (flush9_last t hf), after0_9]; rfl) (Window.Covers.cover win0_9 covers9 (arr_whole0 9))

theorem res2 (h : Pipeline.RDat.FramePost (cfgs 0) (rdat m) (V m) r) : r.2.mem ((c.tc : Thread nD τ).loc main_v9_2) = out2 m c :=
  arr_of m h c 10 (out2 m c) (fun t X hf hL => by
    rw [leaves10 m c t X hL (flush10_last t hf)]
    refine funext fun (y : S1x1280x64.Idx) => ?_
    obtain ⟨k, d, rfl⟩ : ∃ k d, y = ix3 0 k d := ⟨y 1, y 2, (eq_ix3 y).trans (congrArg (ix3 · (y 1) (y 2)) (Subsingleton.elim _ _))⟩
    show (dats m 0 c).after 10 t (ix3 0 k d) = out2 m c ((win0_10.rect t).emb (ix3 0 k d))
    rw [emb10, out2_at m c t (flush10_last t hf), after0_10]; rfl) (Window.Covers.cover win0_10 covers10 (arr_whole0 10))

end Cert.KernelIdeal.Hand
-- ==== Proof.Spec.lean ====
/- The backward pass, entry by entry, in the two orders in which it is computed, and that the two orders agree. -/
module

public import Idealize.ShloMosaic.Lib.Pointwise
public import Idealize.ShloMosaic.PureOps.Ideal

@[expose] public section

set_option maxRecDepth 16384

noncomputable section

namespace Cert.Spec

open Idealize.ShloMosaic

/-- The arguments, entry by entry: queries and their scales, keys and theirs, output, the rows' log sums, the output's
    gradient and its scales. -/
structure Args where
  a0 : Fin 8 → Fin 1280 → Fin 32 → Fin 576 → EReal
  a1 : Fin 8 → Fin 1280 → Fin 32 → EReal
  a2 : Fin 8 → Fin 1280 → Fin 576 → EReal
  a3 : Fin 8 → Fin 1280 → EReal
  a4 : Fin 8 → Fin 1280 → Fin 32 → Fin 512 → EReal
  a5 : Fin 8 → Fin 1280 → Fin 32 → EReal
  a6 : Fin 8 → Fin 1280 → Fin 32 → Fin 512 → EReal
  a7 : Fin 8 → Fin 1280 → EReal

/-- Softmax's scale, `1 / √192`. -/
def σ : ℝ := (Real.sqrt 192)⁻¹
/-- One over `ln 2`. -/
def lg : ℝ := (Real.log 2)⁻¹

theorem σ_nonneg : 0 ≤ σ := inv_nonneg.mpr (Real.sqrt_nonneg _)
theorem lg_pos : 0 < lg := inv_pos.mpr (Real.log_pos (by norm_num))

/-! ## A real factor of either sum -/

/-- A non-negative real factor goes into a difference, -/
theorem real_mul_sub {x : ℝ} (hx : 0 ≤ x) (y z : EReal) : (x : EReal) * (y - z) = x * y - x * z := by
  rw [sub_eq_add_neg, sub_eq_add_neg, EReal.left_distrib_of_nonneg_of_ne_top (EReal.coe_nonneg.mpr hx) (EReal.coe_ne_top x), mul_comm _ (-z), EReal.neg_mul, mul_comm z]

/-- and into a sum. -/
theorem real_mul_sum {x : ℝ} (hx : 0 ≤ x) {n : ℕ} (f : Fin n → EReal) : (x : EReal) * ∑ i, f i = ∑ i, (x : EReal) * f i := by
  induction n with
  | zero => simp
  | succ n ih => rw [Fin.sum_univ_succ, Fin.sum_univ_succ, EReal.left_distrib_of_nonneg_of_ne_top (EReal.coe_nonneg.mpr hx) (EReal.coe_ne_top x), ih]

/-- A power of two at `1 / ln 2` times is a power of `e`. -/
theorem exp2_lg (z : EReal) : Ideal.exp2 ((lg : EReal) * z) = Ideal.exp z := by
  induction z with
  | bot => rw [EReal.coe_mul_bot_of_pos lg_pos]; rfl
  | top => rw [EReal.coe_mul_top_of_pos lg_pos]; rfl
  | coe x =>
    rw [← EReal.coe_mul]
    show ((_ : ℝ) : EReal) = ((_ : ℝ) : EReal)
    refine congrArg _ ?_
    show (2 : ℝ) ^ (lg * x) = Real.exp x
    rw [Real.rpow_def_of_pos (by norm_num), ← mul_assoc, lg, mul_inv_cancel₀ (Real.log_pos (by norm_num)).ne', one_mul]

namespace Args

variable (A : Args) (b : Fin 8)

/-! ## As the reference computes it -/

/-- The probability of a key for a query, zero at a later key. -/
def p (q : Fin 1280) (h : Fin 32) (k : Fin 1280) : EReal :=
  if k.val ≤ q.val then Ideal.exp ((σ : EReal) * ((∑ d, A.a0 b q h d * A.a2 b k d) * (A.a1 b q h * A.a3 b k)) - A.a5 b q h) else 0
/-- Each row's product of output and gradient. -/
def delta (q : Fin 1280) (h : Fin 32) : EReal := ∑ d, A.a6 b q h d * A.a7 b q * A.a4 b q h d
/-- The gradient at the score. -/
def ds (q : Fin 1280) (h : Fin 32) (k : Fin 1280) : EReal :=
  (σ : EReal) * (A.p b q h k * ((∑ d : Fin 512, A.a6 b q h d * A.a2 b k ⟨d.val, by omega⟩) * (A.a7 b q * A.a3 b k) - A.delta b q h))
/-- The gradient of the queries. -/
def dq (q : Fin 1280) (h : Fin 32) (d : Fin 576) : EReal := ∑ k, A.ds b q h k * (A.a2 b k d * A.a3 b k)
/-- The gradient of the keys. -/
def dk (k : Fin 1280) (d : Fin 576) : EReal := ∑ h, ∑ q, A.ds b q h k * (A.a0 b q h d * A.a1 b q h)
/-- The gradient of the values. -/
def dv (k : Fin 1280) (d : Fin 512) : EReal := ∑ h, ∑ q, A.p b q h k * (A.a6 b q h d * A.a7 b q)

/-! ## As the kernel computes it -/

def kraw (q : Fin 1280) (h : Fin 32) (k : Fin 1280) : EReal := ∑ d, A.a2 b k d * A.a0 b q h d
def krawDp (q : Fin 1280) (h : Fin 32) (k : Fin 1280) : EReal := ∑ d : Fin 512, A.a2 b k ⟨d.val, by omega⟩ * A.a6 b q h d
def kprod (q : Fin 1280) (h : Fin 32) (d : Fin 512) : EReal := A.a6 b q h d * A.a4 b q h d
def kdelta (q : Fin 1280) (h : Fin 32) : EReal :=
  (σ : EReal) * A.a7 b q * ∑ l : Fin 128, (A.kprod b q h ⟨l.val, by omega⟩ + A.kprod b q h ⟨128 + l.val, by omega⟩
    + A.kprod b q h ⟨256 + l.val, by omega⟩ + A.kprod b q h ⟨384 + l.val, by omega⟩)
def kp (q : Fin 1280) (h : Fin 32) (k : Fin 1280) : EReal :=
  if k.val ≤ q.val then Ideal.exp2 (A.kraw b q h k * A.a3 b k * (((σ * lg : ℝ) : EReal) * A.a1 b q h) - (lg : EReal) * A.a5 b q h) else 0
def kds (q : Fin 1280) (h : Fin 32) (k : Fin 1280) : EReal :=
  A.kp b q h k * (A.krawDp b q h k * A.a3 b k * ((σ : EReal) * A.a7 b q) - A.kdelta b q h)

/-! ## They agree -/

theorem kraw_eq (q : Fin 1280) (h : Fin 32) (k : Fin 1280) : A.kraw b q h k = ∑ d, A.a0 b q h d * A.a2 b k d :=
  Finset.sum_congr rfl fun _ _ => mul_comm _ _

theorem krawDp_eq (q : Fin 1280) (h : Fin 32) (k : Fin 1280) :
    A.krawDp b q h k = ∑ d : Fin 512, A.a6 b q h d * A.a2 b k ⟨d.val, by omega⟩ :=
  Finset.sum_congr rfl fun _ _ => mul_comm _ _

theorem kp_eq (q : Fin 1280) (h : Fin 32) (k : Fin 1280) : A.kp b q h k = A.p b q h k := by
  unfold kp p
  refine if_congr Iff.rfl ?_ rfl
  rw [← exp2_lg, real_mul_sub lg_pos.le, kraw_eq, EReal.coe_mul]
  refine congrArg (fun x => Ideal.exp2 (x - (lg : EReal) * A.a5 b q h)) ?_
  ac_rfl

/-- A sum over 512 lanes as one over 128 lanes of four. -/
theorem sum_lanes (f : Fin 512 → EReal) :
    ∑ l : Fin 128, (f ⟨l.val, by omega⟩ + f ⟨128 + l.val, by omega⟩ + f ⟨256 + l.val, by omega⟩ + f ⟨384 + l.val, by omega⟩) = ∑ d, f d := by
  rw [Finset.sum_add_distrib, Finset.sum_add_distrib, Finset.sum_add_distrib]
  have h1 := Fin.sum_univ_add (a := 384) (b := 128) f
  have h2 := Fin.sum_univ_add (a := 256) (b := 128) fun i => f (Fin.castAdd 128 i)
  have h3 := Fin.sum_univ_add (a := 128) (b := 128) fun i => f (Fin.castAdd 128 (Fin.castAdd 128 i))
  exact (h1.trans (congrArg (· + _) (h2.trans (congrArg (· + _) h3)))).symm

theorem kdelta_eq (q : Fin 1280) (h : Fin 32) (h0 : 0 ≤ A.a7 b q) (h1 : A.a7 b q < ⊤) :
    A.kdelta b q h = (σ : EReal) * A.delta b q h := by
  unfold kdelta delta
  rw [sum_lanes (A.kprod b q h), mul_assoc]
  refine congrArg _ ?_
  obtain ⟨x, hx⟩ : ∃ x : ℝ, A.a7 b q = x := ⟨(A.a7 b q).toReal, (EReal.coe_toReal h1.ne (ne_bot_of_le_ne_bot (by simp) h0)).symm⟩
  rw [hx] at h0 ⊢
  rw [real_mul_sum (EReal.coe_nonneg.mp h0)]
  refine Finset.sum_congr rfl fun d _ => ?_
  unfold kprod
  ac_rfl

theorem kds_eq (q : Fin 1280) (h : Fin 32) (k : Fin 1280) (h0 : 0 ≤ A.a7 b q) (h1 : A.a7 b q < ⊤) :
    A.kds b q h k = A.ds b q h k := by
  unfold kds ds
  rw [kp_eq, kdelta_eq A b q h h0 h1, krawDp_eq, mul_left_comm (σ : EReal) (A.p b q h k), real_mul_sub σ_nonneg]
  refine congrArg (fun x => A.p b q h k * (x - (σ : EReal) * A.delta b q h)) ?_
  ac_rfl

/-! ## The rows of 32 heads, in steps of 512 -/

/-- The token of row `r` of step `n`, -/
def tok (n : Fin 80) (r : Fin 512) : Fin 1280 := ⟨n.val * 16 + r.val / 32, by omega⟩
/-- and its head. -/
def head (r : Fin 512) : Fin 32 := ⟨r.val % 32, Nat.mod_lt _ (by decide)⟩

/-- A sum over the steps' rows is one over heads and tokens. -/
theorem sum_rows (f : Fin 1280 → Fin 32 → EReal) : ∑ n : Fin 80, ∑ r : Fin 512, f (tok n r) (head r) = ∑ h, ∑ q, f q h := by
  rw [Finset.sum_comm (s := (Finset.univ : Finset (Fin 32))), ← Finset.sum_product', ← Finset.sum_product']
  refine Finset.sum_bij' (fun x _ => (tok x.1 x.2, head x.2))
    (fun y _ => (⟨y.1.val / 16, by omega⟩, ⟨32 * (y.1.val % 16) + y.2.val, by omega⟩)) ?_ ?_ ?_ ?_ ?_
  · intros; exact Finset.mem_univ _
  · intros; exact Finset.mem_univ _
  · rintro ⟨n, r⟩ -
    refine Prod.ext (Fin.ext ?_) (Fin.ext ?_) <;> simp only [tok, head] <;> omega
  · rintro ⟨q, h⟩ -
    refine Prod.ext (Fin.ext ?_) (Fin.ext ?_) <;> simp only [tok, head] <;> omega
  · intros; rfl

end Args

end Cert.Spec
-- ==== Proof.Val.Reads.lean ====
/- The blocks a point reads, as entries of the arguments, and the step's closed forms over the arguments. -/
module

public import proofs.«01_k».proof.Proof.Val.Point
public import proofs.«01_k».proof.Proof.Spec
public import Idealize.ShloMosaic.Lib.Pointwise
public import Idealize.ShloMosaic.Lib.StableHlo.RunHlo

@[expose] public section

set_option maxRecDepth 16384

noncomputable section

namespace Cert.KernelIdeal.Hand

open Cert.KernelIdeal.Gen
open Idealize.ShloMosaic Idealize.ShloMosaic.TcCoe Idealize.ShloMosaic.Tactic
open Cert.Spec (Args)
open Cert.Spec.Args (tok head)

variable (m : (ℓ : Loc nD τ sig) → Buf (Elt Ideal) ℓ) (c : Dev nD)

/-- The kernel's arguments, entry by entry. -/
def args : Args where
  a0 b q h d := (m ((c.tc : Thread nD τ).loc main_arg0) : Vec Ideal S8x1280x32x576 .fp8e4m3) (ix4 b q h d)
  a1 b q h := (m ((c.tc : Thread nD τ).loc main_arg1) : Vec Ideal S8x1280x32 .f32) (ix3 b q h)
  a2 b k d := (m ((c.tc : Thread nD τ).loc main_arg2) : Vec Ideal S8x1280x576 .fp8e4m3) (ix3 b k d)
  a3 b k := (m ((c.tc : Thread nD τ).loc main_arg3) : Vec Ideal S8x1280 .f32) (ix2 b k)
  a4 b q h d := (m ((c.tc : Thread nD τ).loc main_arg4) : Vec Ideal S8x1280x32x512 .bf16) (ix4 b q h d)
  a5 b q h := (m ((c.tc : Thread nD τ).loc main_arg5) : Vec Ideal S8x1280x32 .f32) (ix3 b q h)
  a6 b q h d := (m ((c.tc : Thread nD τ).loc main_arg6) : Vec Ideal S8x1280x32x512 .fp8e5m2) (ix4 b q h d)
  a7 b q := (m ((c.tc : Thread nD τ).loc main_arg7) : Vec Ideal S8x1280 .f32) (ix2 b q)

theorem V_v0 (b : Fin 8) (R : Fin 40960) (d : Fin 576) : (V m c main_v0 : Vec Ideal S8x40960x576 .fp8e4m3) (ix3 b R d)
    = (args m c).a0 b ⟨R.val / 32, by omega⟩ ⟨R.val % 32, Nat.mod_lt _ (by decide)⟩ d := by
  unfold V
  after_results
  pointwise [args]

theorem V_v1 (b : Fin 8) (R : Fin 40960) (d : Fin 512) : (V m c main_v1 : Vec Ideal S8x40960x512 .bf16) (ix3 b R d)
    = (args m c).a4 b ⟨R.val / 32, by omega⟩ ⟨R.val % 32, Nat.mod_lt _ (by decide)⟩ d := by
  unfold V
  after_results
  pointwise [args]

theorem V_v2 (b : Fin 8) (R : Fin 40960) (d : Fin 512) : (V m c main_v2 : Vec Ideal S8x40960x512 .fp8e5m2) (ix3 b R d)
    = (args m c).a6 b ⟨R.val / 32, by omega⟩ ⟨R.val % 32, Nat.mod_lt _ (by decide)⟩ d := by
  unfold V
  after_results
  pointwise [args]

theorem V_v3 (b : Fin 8) (n : Fin 80) (r : Fin 512) : (V m c main_v3 : Vec Ideal S8x80x1x512 .f32) (ix4 b n 0 r)
    = (args m c).a5 b (tok n r) (head r) := by
  unfold V
  after_results
  pointwise [args, tok, head]

theorem V_v4 (b : Fin 8) (n : Fin 80) (r : Fin 512) : (V m c main_v4 : Vec Ideal S8x80x1x512 .f32) (ix4 b n 0 r)
    = (args m c).a1 b (tok n r) (head r) := by
  unfold V
  after_results
  pointwise [args, tok, head]

theorem V_v7 (b : Fin 8) (n : Fin 80) (r : Fin 512) : (V m c main_v7 : Vec Ideal S8x80x1x512 .f32) (ix4 b n 0 r)
    = (args m c).a7 b (tok n r) := by
  unfold V
  after_results
  pointwise [args, tok, head]

theorem V_v8 (b : Fin 8) (k : Fin 1280) : (V m c main_v8 : Vec Ideal S8x1x1280 .f32) (ix3 b 0 k) = (args m c).a3 b k := by
  unfold V
  after_results
  pointwise [args]

/-! ## The step's closed forms -/

variable (t : Fin cfg0.N) (r : Fin 512) (k : Fin 1280)

theorem row_tok : (⟨(rowOf t r).val / 32, by omega⟩ : Fin 1280) = tok (stepOf t) r :=
  Fin.ext (show (512 * (t.val % 80) + r.val) / 32 = t.val % 80 * 16 + r.val / 32 by omega)
theorem row_head : (⟨(rowOf t r).val % 32, Nat.mod_lt _ (by decide)⟩ : Fin 32) = head r :=
  Fin.ext (show (512 * (t.val % 80) + r.val) % 32 = r.val % 32 by omega)

theorem in0 (d : Fin 576) : (Bt m c t).x0 (ix3 0 r d) = (args m c).a0 (batchOf t) (tok (stepOf t) r) (head r) d := by
  rw [Bt_x0, V_v0, row_tok, row_head]
theorem in1 (d : Fin 576) : (Bt m c t).x1 (ix3 0 k d) = (args m c).a2 (batchOf t) k d := by
  rw [Bt_x1, V_main_arg2]; rfl
theorem in2 (d : Fin 512) : (Bt m c t).x2 (ix3 0 r d) = (args m c).a4 (batchOf t) (tok (stepOf t) r) (head r) d := by
  rw [Bt_x2, V_v1, row_tok, row_head]
theorem in3 (d : Fin 512) : (Bt m c t).x3 (ix3 0 r d) = (args m c).a6 (batchOf t) (tok (stepOf t) r) (head r) d := by
  rw [Bt_x3, V_v2, row_tok, row_head]
theorem in4 : (Bt m c t).x4 (ix4 0 0 0 r) = (args m c).a5 (batchOf t) (tok (stepOf t) r) (head r) := by rw [Bt_x4, V_v3]
theorem in5 : (Bt m c t).x5 (ix4 0 0 0 r) = (args m c).a1 (batchOf t) (tok (stepOf t) r) (head r) := by rw [Bt_x5, V_v4]
theorem in6 : (Bt m c t).x6 (ix4 0 0 0 r) = (args m c).a7 (batchOf t) (tok (stepOf t) r) := by rw [Bt_x6, V_v7]
theorem in7 : (Bt m c t).x7 (ix3 0 0 k) = (args m c).a3 (batchOf t) k := by rw [Bt_x7, V_v8]

theorem cS_eq : cS = (Cert.Spec.σ : EReal) := IdealRules.named_const.ideal_named_scalar _ _ _ _ rfl
theorem cSL_eq : cSL = ((Cert.Spec.σ * Cert.Spec.lg : ℝ) : EReal) := IdealRules.named_const.ideal_named_scalar _ _ _ _ rfl
theorem cL_eq : cL = (Cert.Spec.lg : EReal) := IdealRules.named_const.ideal_named_scalar _ _ _ _ rfl

theorem raw_eq : (Bt m c t).raw k r = (args m c).kraw (batchOf t) (tok (stepOf t) r) (head r) k := by
  unfold Ins.raw Args.kraw
  exact Finset.sum_congr rfl fun d _ => by rw [in0, in1]
theorem rawDp_eq : (Bt m c t).rawDp k r = (args m c).krawDp (batchOf t) (tok (stepOf t) r) (head r) k := by
  unfold Ins.rawDp Args.krawDp
  exact Finset.sum_congr rfl fun d _ => by rw [in1, in3]
theorem prod_eq (d : Fin 512) : (Bt m c t).prod r d = (args m c).kprod (batchOf t) (tok (stepOf t) r) (head r) d := by
  unfold Ins.prod Args.kprod
  rw [in2, in3]
theorem delta_eq : (Bt m c t).delta r = (args m c).kdelta (batchOf t) (tok (stepOf t) r) (head r) := by
  unfold Ins.delta Args.kdelta
  rw [in6, cS_eq]
  refine congrArg _ (Finset.sum_congr rfl fun l _ => ?_)
  rw [prod_eq, prod_eq, prod_eq, prod_eq]
theorem p_eq : (Bt m c t).p (t.val % 80) k r = (args m c).kp (batchOf t) (tok (stepOf t) r) (head r) k := by
  unfold Ins.p Ins.pAll Args.kp
  rw [raw_eq, in4, in5, in7, cSL_eq, cL_eq]
  refine if_congr ?_ rfl rfl
  show k.val ≤ 16 * (t.val % 80) + r.val / 32 ↔ k.val ≤ t.val % 80 * 16 + r.val / 32
  omega
theorem ds_eq : (Bt m c t).ds (t.val % 80) k r = (args m c).kds (batchOf t) (tok (stepOf t) r) (head r) k := by
  unfold Ins.ds Args.kds
  rw [p_eq, rawDp_eq, delta_eq, in6, in7, cS_eq]

end Cert.KernelIdeal.Hand
-- ==== Proof.Val.Results.lean ====
/- The kernel's three results over its arguments. -/
module

public import proofs.«01_k».proof.Proof.Val.Arrays
public import proofs.«01_k».proof.Proof.Val.Reads

@[expose] public section

set_option maxRecDepth 16384

noncomputable section

namespace Cert.KernelIdeal.Hand

open Cert.KernelIdeal.Gen
open Idealize.ShloMosaic Idealize.ShloMosaic.TcCoe
open Cert.Spec (Args)
open Cert.Spec.Args (tok head)

variable (m : (ℓ : Loc nD τ sig) → Buf (Elt Ideal) ℓ) (c : Dev nD)
variable (h0 : ∀ b q, 0 ≤ (args m c).a7 b q) (h1 : ∀ b q, (args m c).a7 b q < ⊤)

/-- Step `n` of batch `b`. -/
def pt (b : Fin 8) (n : Fin 80) : Fin cfg0.N := ⟨80 * b.val + n.val, Nat.lt_of_lt_of_eq (by omega) N_0.symm⟩

theorem pt_batch (b : Fin 8) (n : Fin 80) : batchOf (pt b n) = b := Fin.ext (show (80 * b.val + n.val) / 80 = b.val by omega)
theorem pt_step (b : Fin 8) (n : Fin 80) : stepOf (pt b n) = n := Fin.ext (show (80 * b.val + n.val) % 80 = n.val by omega)
theorem pt_mod (b : Fin 8) (n : Fin 80) : (pt b n).val % 80 = n.val := show (80 * b.val + n.val) % 80 = n.val by omega

include h0 h1

theorem ds_spec (b : Fin 8) (n : Fin 80) (k : Fin 1280) (r : Fin 512) :
    (Bt m c (pt b n)).ds n.val k r = (args m c).ds b (tok n r) (head r) k := by
  have h := ds_eq m c (pt b n) r k
  rw [pt_mod, pt_batch, pt_step] at h
  rw [h]
  exact Args.kds_eq _ b _ _ k (h0 b _) (h1 b _)

omit h0 h1 in
theorem p_spec (b : Fin 8) (n : Fin 80) (k : Fin 1280) (r : Fin 512) :
    (Bt m c (pt b n)).p n.val k r = (args m c).p b (tok n r) (head r) k := by
  have h := p_eq m c (pt b n) r k
  rw [pt_mod, pt_batch, pt_step] at h
  rw [h]
  exact Args.kp_eq _ b _ _ k

/-- The gradient of the queries. -/
theorem out0_spec (b : Fin 8) (R : Fin 40960) (d : Fin 576) :
    out0 m c (ix3 b R d) = (args m c).dq b ⟨R.val / 32, by omega⟩ ⟨R.val % 32, Nat.mod_lt _ (by decide)⟩ d := by
  obtain ⟨n, r, rfl⟩ : ∃ (n : Fin 80) (r : Fin 512), R = rowOf (pt b n) r :=
    ⟨⟨R.val / 512, by omega⟩, ⟨R.val % 512, Nat.mod_lt _ (by decide)⟩,
      Fin.ext (show R.val = 512 * ((80 * b.val + R.val / 512) % 80) + R.val % 512 by omega)⟩
  have h := out0_at m c (pt b n) r d
  rw [pt_batch] at h
  rw [h, pt_mod, row_tok, row_head, pt_step]
  unfold Ins.dq Args.dq
  refine Finset.sum_congr rfl fun k _ => ?_
  rw [ds_spec m c h0 h1, Ins.kt, in1, in7, pt_batch, mul_comm]

/-- The gradient of the latent part. -/
theorem out1_spec (b : Fin 8) (k : Fin 1280) (d : Fin 512) :
    out1 m c (ix3 b k d) = (args m c).dk b k ⟨d.val, by omega⟩ + (args m c).dv b k d := by
  have hsum : out1 m c (ix3 b k d) = ∑ n : Fin 80, (Bt m c (pt b n)).dcAdd n.val k d := by
    show dcSum m c (80 * b.val + 79) k d = _
    unfold dcSum
    rw [show (80 * b.val + 79) % 80 + 1 = 80 by omega, show (80 * b.val + 79) / 80 * 80 = 80 * b.val by omega, Finset.sum_range]
    refine Finset.sum_congr rfl fun n _ => ?_
    rw [show 80 * b.val + n.val = (pt b n).val from rfl, ptAt_val]
  rw [hsum]
  unfold Args.dk Args.dv Ins.dcAdd
  rw [Finset.sum_add_distrib, ← Args.sum_rows, ← Args.sum_rows]
  refine congrArg₂ (fun x y : EReal => x + y) ?_ ?_
  · refine Finset.sum_congr rfl fun n _ => Finset.sum_congr rfl fun r _ => ?_
    rw [Ins.dsq, ds_spec m c h0 h1, in0, in5, pt_batch, pt_step, mul_assoc]
    exact congrArg _ (mul_comm _ _)
  · refine Finset.sum_congr rfl fun n _ => Finset.sum_congr rfl fun r _ => ?_
    rw [Ins.pt, p_spec, in3, in6, pt_batch, pt_step, mul_assoc]
    exact congrArg _ (mul_comm _ _)

/-- The gradient of the rotary part. -/
theorem out2_spec (b : Fin 8) (k : Fin 1280) (d : Fin 64) :
    out2 m c (ix3 b k d) = (args m c).dk b k ⟨512 + d.val, by omega⟩ := by
  have hsum : out2 m c (ix3 b k d) = ∑ n : Fin 80, (Bt m c (pt b n)).dkrAdd n.val d k := by
    show dkrSum m c (80 * b.val + 79) d k = _
    unfold dkrSum
    rw [show (80 * b.val + 79) % 80 + 1 = 80 by omega, show (80 * b.val + 79) / 80 * 80 = 80 * b.val by omega, Finset.sum_range]
    refine Finset.sum_congr rfl fun n _ => ?_
    rw [show 80 * b.val + n.val = (pt b n).val from rfl, ptAt_val]
  rw [hsum]
  unfold Args.dk Ins.dkrAdd
  rw [← Args.sum_rows]
  refine Finset.sum_congr rfl fun n _ => Finset.sum_congr rfl fun r _ => ?_
  rw [Ins.dsq, ds_spec m c h0 h1, in0, in5, pt_batch, pt_step, mul_comm, mul_assoc]
  exact congrArg _ (mul_comm _ _)

end Cert.KernelIdeal.Hand
-- ==== Proof.Ref.Host.lean ====
/- What the reference's host lines compute, entry by entry, from what the region leaves. -/
module

public import proofs.«01_k».proof.Proof.Gen.ReferenceIdeal.Frame
public import proofs.«01_k».proof.Proof.Spec
public import Idealize.ShloMosaic.Lib.Pointwise
public import Idealize.ShloMosaic.Lib.StableHlo.RunHlo

@[expose] public section

set_option maxRecDepth 16384

noncomputable section

namespace Cert.ReferenceIdeal.Hand

open Cert.ReferenceIdeal.Gen
open Idealize.ShloMosaic Idealize.ShloMosaic.TcCoe Idealize.ShloMosaic.Tactic

variable (W : Valuation τ sig (Elt Ideal))

/-- Equal terms have equal sums. -/
theorem sum_eq {n : ℕ} {f g : Fin n → EReal} (h : ∀ i, f i = g i) : ∑ i, f i = ∑ i, g i := Finset.sum_congr rfl fun i _ => h i

/-- Two lines of operations, one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- What the region leaves: the arguments, and the queries, keys and output's gradient widened. -/
def argsOf : Cert.Spec.Args where
  a0 b q h d := (W (Proc.devRef .tc main_v1_0) : Vec Ideal S8x1280x32x576 .bf16) (ix4 b q h d)
  a1 b q h := (W (Proc.devRef .tc main_arg1) : Vec Ideal S8x1280x32 .f32) (ix3 b q h)
  a2 b k d := (W (Proc.devRef .tc main_v1_1) : Vec Ideal S8x1280x576 .bf16) (ix3 b k d)
  a3 b k := (W (Proc.devRef .tc main_arg3) : Vec Ideal S8x1280 .f32) (ix2 b k)
  a4 b q h d := (W (Proc.devRef .tc main_arg4) : Vec Ideal S8x1280x32x512 .bf16) (ix4 b q h d)
  a5 b q h := (W (Proc.devRef .tc main_arg5) : Vec Ideal S8x1280x32 .f32) (ix3 b q h)
  a6 b q h d := (W (Proc.devRef .tc main_v1_2) : Vec Ideal S8x1280x32x512 .bf16) (ix4 b q h d)
  a7 b q := (W (Proc.devRef .tc main_arg7) : Vec Ideal S8x1280 .f32) (ix2 b q)

/-- The valuation after the first two lines. -/
def W2 : Valuation τ sig (Elt Ideal) := StableHlo.after hostOps1_1 (StableHlo.after hostOps1 W)

/-- The comparison of two positions, as a proposition. -/
theorem mask_eq (k q : Fin 1280) (x y : EReal) :
    Scalar.select (IntOp.cmpi CmpIPredicate.sle (BitVec.ofNat 32 k.val) (BitVec.ofNat 32 q.val)) x y = if k.val ≤ q.val then x else y := by
  word_cmp

/-- A choice between equals. -/
theorem select_congr {c c' : BitVec 1} {x x' y y' : EReal} (hc : c = c') (hx : x = x') (hy : y = y') :
    Scalar.select c x y = Scalar.select c' x' y' := by
  subst hc hx hy; rfl

/-- The selection of the seen keys' probabilities. -/
theorem v41_of (W1 : Valuation τ sig (Elt Ideal)) :
    (StableHlo.after hostOps1_1 W1 (Proc.devRef .tc main_v41) : Vec Ideal S8x1280x32x1280 .f32)
      = select (broadcastInDim S8x1280x32x1280 ![0, 1, 2, 3] bcast_S1x1280x1x1280_S8x1280x32x1280_0_1_2_3 (W1 (Proc.devRef .tc main_v36) : Vec Ideal S1x1280x1x1280 .i1))
          (W1 (Proc.devRef .tc main_v40) : Vec Ideal S8x1280x32x1280 .f32)
          (broadcastInDim S8x1280x32x1280 ![] bcast_S_S8x1280x32x1280 (W1 (Proc.devRef .tc main_cst_1) : Vec Ideal S_ .f32) : Vec Ideal S8x1280x32x1280 .f32) := by
  after_results
  rfl

theorem v36_at (q : Fin 1280) (k : Fin 1280) :
    (StableHlo.after hostOps1 W (Proc.devRef .tc main_v36) : Vec Ideal S1x1280x1x1280 .i1) (ix4 0 q 0 k)
      = IntOp.cmpi CmpIPredicate.sle (BitVec.ofNat 32 k.val) (BitVec.ofNat 32 q.val) := by
  after_results
  pointwise []

/-- The scale. -/
def w0 : EReal := (W (Proc.devRef .tc main_v0) : Vec Ideal S_ .f32) ix0

theorem v40_at (b : Fin 8) (q : Fin 1280) (h : Fin 32) (k : Fin 1280) :
    (StableHlo.after hostOps1 W (Proc.devRef .tc main_v40) : Vec Ideal S8x1280x32x1280 .f32) (ix4 b q h k)
      = Ideal.exp (w0 W * ((∑ d, (argsOf W).a0 b q h d * (argsOf W).a2 b k d) * ((argsOf W).a1 b q h * (argsOf W).a3 b k)) - (argsOf W).a5 b q h) := by
  after_results
  pointwise [argsOf, w0]

theorem cst_at : (StableHlo.after hostOps1 W (Proc.devRef .tc main_cst_1) : Vec Ideal S_ .f32) ix0 = (0 : EReal) := by
  after_results
  pointwise []

theorem v41_at (hs : (W (Proc.devRef .tc main_v0) : Vec Ideal S_ .f32) ix0 = (Cert.Spec.σ : EReal)) (b : Fin 8) (q : Fin 1280) (h : Fin 32) (k : Fin 1280) :
    (W2 W (Proc.devRef .tc main_v41) : Vec Ideal S8x1280x32x1280 .f32) (ix4 b q h k) = (argsOf W).p b q h k := by
  unfold W2
  rw [v41_of]
  pointwise [Cert.Spec.Args.p]
  have h36 := v36_at W q k
  have h40 := v40_at W b q h k
  have h0 := cst_at W
  rw [show w0 W = _ from hs] at h40
  exact (select_congr h36 h40 h0).trans (mask_eq k q _ _)

theorem v20_at (b : Fin 8) (q : Fin 1280) (h : Fin 32) :
    (W2 W (Proc.devRef .tc main_v20) : Vec Ideal S8x1280x32 .f32) (ix3 b q h) = (argsOf W).delta b q h := by
  unfold W2
  after_results
  pointwise [Cert.Spec.Args.delta, argsOf]
theorem v5_at (b : Fin 8) (k : Fin 1280) (d : Fin 576) :
    (W2 W (Proc.devRef .tc main_v5) : Vec Ideal S8x1280x576 .bf16) (ix3 b k d) = (argsOf W).a2 b k d * (argsOf W).a3 b k := by
  unfold W2
  after_results
  pointwise [argsOf]
theorem v9_at (b : Fin 8) (q : Fin 1280) (h : Fin 32) (d : Fin 576) :
    (W2 W (Proc.devRef .tc main_v9) : Vec Ideal S8x1280x32x576 .bf16) (ix4 b q h d) = (argsOf W).a0 b q h d * (argsOf W).a1 b q h := by
  unfold W2
  after_results
  pointwise [argsOf]
theorem v13_at (b : Fin 8) (q : Fin 1280) (h : Fin 32) (d : Fin 512) :
    (W2 W (Proc.devRef .tc main_v13) : Vec Ideal S8x1280x32x512 .bf16) (ix4 b q h d) = (argsOf W).a6 b q h d * (argsOf W).a7 b q := by
  unfold W2
  after_results
  pointwise [argsOf]
theorem W2_v0 : W2 W (Proc.devRef .tc main_v0) = W (Proc.devRef .tc main_v0) := by
  unfold W2; after_results
theorem W2_v1_1 : W2 W (Proc.devRef .tc main_v1_1) = W (Proc.devRef .tc main_v1_1) := by
  unfold W2; after_results
theorem W2_v1_2 : W2 W (Proc.devRef .tc main_v1_2) = W (Proc.devRef .tc main_v1_2) := by
  unfold W2; after_results
theorem W2_arg3 : W2 W (Proc.devRef .tc main_arg3) = W (Proc.devRef .tc main_arg3) := by
  unfold W2; after_results
theorem W2_arg7 : W2 W (Proc.devRef .tc main_arg7) = W (Proc.devRef .tc main_arg7) := by
  unfold W2; after_results

/-! ## The last line -/

section Last

variable (U : Valuation τ sig (Elt Ideal))

/-! The buffers that the last line finds, entry by entry. -/

def u0 : EReal := (U (Proc.devRef .tc main_v0) : Vec Ideal S_ .f32) ix0
def u41 (b : Fin 8) (q : Fin 1280) (h : Fin 32) (k : Fin 1280) : EReal := (U (Proc.devRef .tc main_v41) : Vec Ideal S8x1280x32x1280 .f32) (ix4 b q h k)
def uDo (b : Fin 8) (q : Fin 1280) (h : Fin 32) (d : Fin 512) : EReal := (U (Proc.devRef .tc main_v1_2) : Vec Ideal S8x1280x32x512 .bf16) (ix4 b q h d)
def uKv (b : Fin 8) (k : Fin 1280) (d : Fin 576) : EReal := (U (Proc.devRef .tc main_v1_1) : Vec Ideal S8x1280x576 .bf16) (ix3 b k d)
def uDos (b : Fin 8) (q : Fin 1280) : EReal := (U (Proc.devRef .tc main_arg7) : Vec Ideal S8x1280 .f32) (ix2 b q)
def uKvs (b : Fin 8) (k : Fin 1280) : EReal := (U (Proc.devRef .tc main_arg3) : Vec Ideal S8x1280 .f32) (ix2 b k)
def u20 (b : Fin 8) (q : Fin 1280) (h : Fin 32) : EReal := (U (Proc.devRef .tc main_v20) : Vec Ideal S8x1280x32 .f32) (ix3 b q h)
def u5 (b : Fin 8) (k : Fin 1280) (d : Fin 576) : EReal := (U (Proc.devRef .tc main_v5) : Vec Ideal S8x1280x576 .bf16) (ix3 b k d)
def u9 (b : Fin 8) (q : Fin 1280) (h : Fin 32) (d : Fin 576) : EReal := (U (Proc.devRef .tc main_v9) : Vec Ideal S8x1280x32x576 .bf16) (ix4 b q h d)
def u13 (b : Fin 8) (q : Fin 1280) (h : Fin 32) (d : Fin 512) : EReal := (U (Proc.devRef .tc main_v13) : Vec Ideal S8x1280x32x512 .bf16) (ix4 b q h d)

/-- The gradient at the score, of the buffers the last line finds. -/
def dsOf (b : Fin 8) (q : Fin 1280) (h : Fin 32) (k : Fin 1280) : EReal :=
  u0 U * (u41 U b q h k * ((∑ d : Fin 512, uDo U b q h d * uKv U b k ⟨d.val, by omega⟩) * (uDos U b q * uKvs U b k) - u20 U b q h))

theorem v63_of (b : Fin 8) (R : Fin 40960) (d : Fin 576) :
    (StableHlo.after hostOps1_2 U (Proc.devRef .tc main_v63) : Vec Ideal S8x40960x576 .bf16) (ix3 b R d)
      = (∑ k : Fin 1280, dsOf U b ⟨R.val / 32, by omega⟩ ⟨R.val % 32, Nat.mod_lt _ (by decide)⟩ k * u5 U b k d : EReal) := by
  after_results
  pointwise [dsOf, u0, u41, uDo, uKv, uDos, uKvs, u20, u5]

theorem v65_of (b : Fin 8) (k : Fin 1280) (d : Fin 512) :
    (StableHlo.after hostOps1_2 U (Proc.devRef .tc main_v65) : Vec Ideal S8x1280x512 .f32) (ix3 b k d)
      = ((∑ h : Fin 32, ∑ q : Fin 1280, dsOf U b q h k * u9 U b q h ⟨d.val, by omega⟩)
        + ∑ h : Fin 32, ∑ q : Fin 1280, u41 U b q h k * u13 U b q h d : EReal) := by
  after_results
  pointwise [dsOf, u0, u41, uDo, uKv, uDos, uKvs, u20, u9, u13]

theorem v66_of (b : Fin 8) (k : Fin 1280) (d : Fin 64) :
    (StableHlo.after hostOps1_2 U (Proc.devRef .tc main_v66) : Vec Ideal S8x1280x64 .f32) (ix3 b k d)
      = (∑ h : Fin 32, ∑ q : Fin 1280, dsOf U b q h k * u9 U b q h ⟨512 + d.val, by omega⟩ : EReal) := by
  after_results
  pointwise [dsOf, u0, u41, uDo, uKv, uDos, uKvs, u20, u9]

end Last

/-! ## The three results, from what the region leaves -/

variable (hs : (W (Proc.devRef .tc main_v0) : Vec Ideal S_ .f32) ix0 = (Cert.Spec.σ : EReal))
include hs

theorem ds_at (b : Fin 8) (q : Fin 1280) (h : Fin 32) (k : Fin 1280) : dsOf (W2 W) b q h k = (argsOf W).ds b q h k := by
  unfold dsOf Cert.Spec.Args.ds u0 uDo uKv uDos uKvs
  rw [show u41 (W2 W) b q h k = _ from v41_at W hs b q h k, show u20 (W2 W) b q h = _ from v20_at W b q h, W2_v0, W2_v1_1, W2_v1_2, W2_arg3, W2_arg7, hs]
  rfl

theorem res63 (b : Fin 8) (R : Fin 40960) (d : Fin 576) :
    (StableHlo.after hostOps1_2 (W2 W) (Proc.devRef .tc main_v63) : Vec Ideal S8x40960x576 .bf16) (ix3 b R d)
      = (argsOf W).dq b ⟨R.val / 32, by omega⟩ ⟨R.val % 32, Nat.mod_lt _ (by decide)⟩ d :=
  (v63_of (W2 W) b R d).trans (sum_eq fun k => congrArg₂ (fun x y : EReal => x * y) (ds_at W hs b _ _ k) (v5_at W b k d))

theorem res65 (b : Fin 8) (k : Fin 1280) (d : Fin 512) :
    (StableHlo.after hostOps1_2 (W2 W) (Proc.devRef .tc main_v65) : Vec Ideal S8x1280x512 .f32) (ix3 b k d)
      = (argsOf W).dk b k ⟨d.val, by omega⟩ + (argsOf W).dv b k d :=
  (v65_of (W2 W) b k d).trans (congrArg₂ (fun x y : EReal => x + y)
    (sum_eq fun h => sum_eq fun q => congrArg₂ (fun x y : EReal => x * y) (ds_at W hs b q h k) (v9_at W b q h _))
    (sum_eq fun h => sum_eq fun q => congrArg₂ (fun x y : EReal => x * y) (v41_at W hs b q h k) (v13_at W b q h d)))

theorem res66 (b : Fin 8) (k : Fin 1280) (d : Fin 64) :
    (StableHlo.after hostOps1_2 (W2 W) (Proc.devRef .tc main_v66) : Vec Ideal S8x1280x64 .f32) (ix3 b k d)
      = (argsOf W).dk b k ⟨512 + d.val, by omega⟩ :=
  (v66_of (W2 W) b k d).trans
    (sum_eq fun h => sum_eq fun q => congrArg₂ (fun x y : EReal => x * y) (ds_at W hs b q h k) (v9_at W b q h _))

end Cert.ReferenceIdeal.Hand
-- ==== Proof.Ref.Run.lean ====
/- What the reference's region leaves, and the reference's three results over its arguments. -/
module

public import proofs.«01_k».proof.Proof.Ref.Host
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- A block of index zero starts at the array's start. -/
theorem zero_off (s x : ℕ) : 0 * s + x = x := by rw [Nat.zero_mul, Nat.zero_add]

/-- The queries, widened. -/
theorem arr3 : (dats m 0 c).arrAt 3 cfg0.N
    = (m ((c.tc : Thread nD τ).loc main_arg0) : Vec Ideal S8x1280x32x576 .fp8e4m3) := by
  refine (dats m 0 c).arrAt_eq_of_after_last 3 t0_0 (by decide +kernel) _ fun j => ?_
  blk_simp
  rw [after0_3]
  frame_out
  blk_point [iblk, V, k0_pay1]
  all_goals exact zero_off _ _

/-- The keys, widened. -/
theorem arr4 : (dats m 0 c).arrAt 4 cfg0.N
    = (m ((c.tc : Thread nD τ).loc main_arg2) : Vec Ideal S8x1280x576 .fp8e4m3) := by
  refine (dats m 0 c).arrAt_eq_of_after_last 4 t0_0 (by decide +kernel) _ fun j => ?_
  blk_simp
  rw [after0_4]
  frame_out
  blk_point [iblk, V, k0_pay2]
  all_goals exact zero_off _ _

/-- The output gradient, widened. -/
theorem arr5 : (dats m 0 c).arrAt 5 cfg0.N
    = (m ((c.tc : Thread nD τ).loc main_arg6) : Vec Ideal S8x1280x32x512 .fp8e5m2) := by
  refine (dats m 0 c).arrAt_eq_of_after_last 5 t0_0 (by decide +kernel) _ fun j => ?_
  blk_simp
  rw [after0_5]
  frame_out
  blk_point [iblk, V, k0_pay3]
  all_goals exact zero_off _ _

/-- What the lines after the region read: the memory before it, with the region's arrays as it left them. -/
def W : Valuation τ sig (Elt Ideal) :=
  Pipeline.withArrays (cfgs 0).spec c (V0 m c) fun w => (dats m 0 c).arrAt w (cfgs 0).N

theorem W_v1_0 : W m c (Proc.devRef .tc main_v1_0) = (m ((c.tc : Thread nD τ).loc main_arg0) : Vec Ideal S8x1280x32x576 .fp8e4m3) :=
  (Pipeline.withArrays_arr (cfgs 0).spec launch0.win.arr_inj c (V0 m c) _ 3).trans (arr3 m c)

theorem W_v1_1 : W m c (Proc.devRef .tc main_v1_1) = (m ((c.tc : Thread nD τ).loc main_arg2) : Vec Ideal S8x1280x576 .fp8e4m3) :=
  (Pipeline.withArrays_arr (cfgs 0).spec launch0.win.arr_inj c (V0 m c) _ 4).trans (arr4 m c)

theorem W_v1_2 : W m c (Proc.devRef .tc main_v1_2) = (m ((c.tc : Thread nD τ).loc main_arg6) : Vec Ideal S8x1280x32x512 .fp8e5m2) :=
  (Pipeline.withArrays_arr (cfgs 0).spec launch0.win.arr_inj c (V0 m c) _ 5).trans (arr5 m c)

theorem W_arg1 : W m c (Proc.devRef .tc main_arg1) = m ((c.tc : Thread nD τ).loc main_arg1) :=
  (Pipeline.withArrays_of_ne (cfgs 0).spec c (V0 m c) _ main_arg1 (by decide)).trans (V_main_arg1 m c)

theorem W_arg3 : W m c (Proc.devRef .tc main_arg3) = m ((c.tc : Thread nD τ).loc main_arg3) :=
  (Pipeline.withArrays_of_ne (cfgs 0).spec c (V0 m c) _ main_arg3 (by decide)).trans (V_main_arg3 m c)

theorem W_arg4 : W m c (Proc.devRef .tc main_arg4) = m ((c.tc : Thread nD τ).loc main_arg4) :=
  (Pipeline.withArrays_of_ne (cfgs 0).spec c (V0 m c) _ main_arg4 (by decide)).trans (V_main_arg4 m c)

theorem W_arg5 : W m c (Proc.devRef .tc main_arg5) = m ((c.tc : Thread nD τ).loc main_arg5) :=
  (Pipeline.withArrays_of_ne (cfgs 0).spec c (V0 m c) _ main_arg5 (by decide)).trans (V_main_arg5 m c)

theorem W_arg7 : W m c (Proc.devRef .tc main_arg7) = m ((c.tc : Thread nD τ).loc main_arg7) :=
  (Pipeline.withArrays_of_ne (cfgs 0).spec c (V0 m c) _ main_arg7 (by decide)).trans (V_main_arg7 m c)

/-- The constant 192. -/
theorem ofBits_192 : Ideal.ofBits .f32 0x43400000#32 = ((192 : ℝ) : EReal) := by
  simp [Ideal.ofBits, Ideal.ieee, -EReal.coe_mul]; norm_num

/-- The inverse square root of the constant 192 is the score scale. -/
theorem rsqrt_192 : Ideal.rsqrt (Ideal.ofBits .f32 0x43400000#32) = (Cert.Spec.σ : EReal) := by
  rw [ofBits_192, Ideal.rsqrt_coe, if_neg (by norm_num), if_neg (by norm_num)]
  rfl

theorem W_v0 : (W m c (Proc.devRef .tc main_v0) : Vec Ideal S_ .f32) ix0 = (Cert.Spec.σ : EReal) := by
  refine (congrFun (Pipeline.withArrays_of_ne (cfgs 0).spec c (V0 m c) _ main_v0 (by decide)) ix0).trans ?_
  exact rsqrt_192

/-- The reference's arguments, entry by entry. -/
def args : Cert.Spec.Args where
  a0 b q h d := (m ((c.tc : Thread nD τ).loc main_arg0) : Vec Ideal S8x1280x32x576 .fp8e4m3) (ix4 b q h d)
  a1 b q h := (m ((c.tc : Thread nD τ).loc main_arg1) : Vec Ideal S8x1280x32 .f32) (ix3 b q h)
  a2 b k d := (m ((c.tc : Thread nD τ).loc main_arg2) : Vec Ideal S8x1280x576 .fp8e4m3) (ix3 b k d)
  a3 b k := (m ((c.tc : Thread nD τ).loc main_arg3) : Vec Ideal S8x1280 .f32) (ix2 b k)
  a4 b q h d := (m ((c.tc : Thread nD τ).loc main_arg4) : Vec Ideal S8x1280x32x512 .bf16) (ix4 b q h d)
  a5 b q h := (m ((c.tc : Thread nD τ).loc main_arg5) : Vec Ideal S8x1280x32 .f32) (ix3 b q h)
  a6 b q h d := (m ((c.tc : Thread nD τ).loc main_arg6) : Vec Ideal S8x1280x32x512 .fp8e5m2) (ix4 b q h d)
  a7 b q := (m ((c.tc : Thread nD τ).loc main_arg7) : Vec Ideal S8x1280 .f32) (ix2 b q)

/-- What the region leaves is the arguments. -/
theorem argsOf_W : argsOf (W m c) = args m c := by
  unfold argsOf args
  rw [W_v1_0, W_arg1, W_v1_1, W_arg3, W_arg4, W_arg5, W_v1_2, W_arg7]

variable {r : PUnit × MemSt nD τ sig (Elt Ideal)}

/-- A buffer the lines after the region write. -/
theorem rest_of (b : Ref sig .tc) (hu : b.isScoped = false) (hb : ∀ w, Pipeline.arrRef spec0 w ≠ b)
    (h : Pipeline.FramePost cfgs (dats m) 0 (Pipeline.afterTail₀ cfgs (dats m) 0 (V0 m) [hostOps1, hostOps1_1, hostOps1_2]) r) :
    r.2.mem ((c.tc : Thread nD τ).loc b) = StableHlo.after hostOps1_2 (W2 (W m c)) (Proc.devRef .tc b) := by
  refine ((h c).2 b (Pipeline.mem_restRefs_of b hu hb)).trans ?_
  show StableHlo.after (hostOps1 ++ (hostOps1_1 ++ (hostOps1_2 ++ []))) (W m c) (Proc.devRef .tc b) = _
  rw [after_append, after_append, List.append_nil]
  rfl

/-- The reference's results are the plain formulas over its arguments. -/
theorem ref63 (h : Pipeline.FramePost cfgs (dats m) 0 (Pipeline.afterTail₀ cfgs (dats m) 0 (V0 m) [hostOps1, hostOps1_1, hostOps1_2]) r)
    (b : Fin 8) (R : Fin 40960) (d : Fin 576) :
    (r.2.mem ((c.tc : Thread nD τ).loc main_v63) : Vec Ideal S8x40960x576 .f32) (ix3 b R d)
      = (args m c).dq b ⟨R.val / 32, by omega⟩ ⟨R.val % 32, Nat.mod_lt _ (by decide)⟩ d := by
  rw [rest_of m c main_v63 (by decide) (by decide) h, ← argsOf_W]
  exact res63 (W m c) (W_v0 m c) b R d

theorem ref65 (h : Pipeline.FramePost cfgs (dats m) 0 (Pipeline.afterTail₀ cfgs (dats m) 0 (V0 m) [hostOps1, hostOps1_1, hostOps1_2]) r)
    (b : Fin 8) (k : Fin 1280) (d : Fin 512) :
    (r.2.mem ((c.tc : Thread nD τ).loc main_v65) : Vec Ideal S8x1280x512 .f32) (ix3 b k d)
      = (args m c).dk b k ⟨d.val, by omega⟩ + (args m c).dv b k d := by
  rw [rest_of m c main_v65 (by decide) (by decide) h, ← argsOf_W]
  exact res65 (W m c) (W_v0 m c) b k d

theorem ref66 (h : Pipeline.FramePost cfgs (dats m) 0 (Pipeline.afterTail₀ cfgs (dats m) 0 (V0 m) [hostOps1, hostOps1_1, hostOps1_2]) r)
    (b : Fin 8) (k : Fin 1280) (d : Fin 64) :
    (r.2.mem ((c.tc : Thread nD τ).loc main_v66) : Vec Ideal S8x1280x64 .f32) (ix3 b k d)
      = (args m c).dk b k ⟨512 + d.val, by omega⟩ := by
  rw [rest_of m c main_v66 (by decide) (by decide) h, ← argsOf_W]
  exact res66 (W m c) (W_v0 m c) b k d

end Cert.ReferenceIdeal.Hand
-- ==== Proof.Pre.lean ====
/- Reading the precondition: every scale of the output's gradient is nonnegative and finite. -/
module

public import proofs.«01_k».proof.Pre_scale_ok
public import Idealize.ShloMosaic.Lib.Pointwise

@[expose] public section

noncomputable section

namespace Cert.Pre_scale_ok

open Idealize.ShloMosaic Idealize.ShloMosaic.Tactic

/-- The shape relations of the precondition's operations. -/
instance facts : Facts := ⟨by decide⟩

/-- The pattern of plus infinity. -/
theorem ofBits_inf : Ideal.ofBits .f32 0x7F800000#32 = (⊤ : EReal) := by simp [Ideal.ofBits, Ideal.ieee]

/-- Both bits of a conjunction that is one are one. -/
theorem and_one : ∀ {x y : BitVec 1}, x &&& y = 1#1 → x = 1#1 ∧ y = 1#1 := by decide

theorem bounds [Facts] {a0 : FVec Ideal S8x1280x32x576 .fp8e4m3} {a1 : FVec Ideal S8x1280x32 .f32} {a2 : FVec Ideal S8x1280x576 .fp8e4m3}
    {a3 : FVec Ideal S8x1280 .f32} {a4 : FVec Ideal S8x1280x32x512 .bf16} {a5 : FVec Ideal S8x1280x32 .f32}
    {a6 : FVec Ideal S8x1280x32x512 .fp8e5m2} {a7 : FVec Ideal S8x1280 .f32}
    (h : fn (F := Ideal) a0 a1 a2 a3 a4 a5 a6 a7 = fun _ => 1#1) (j : S8x1280.Idx) :
    (0 : EReal) ≤ a7 j ∧ (a7 j : EReal) < ⊤ := by
  have e : Ideal.cmp .oge (a7 j) (Ideal.ofBits .f32 0x00000000#32) &&& Ideal.cmp .olt (a7 j) (Ideal.ofBits .f32 0x7F800000#32) = 1#1 :=
    congrFun h j
  obtain ⟨e0, e1⟩ := and_one e
  refine ⟨?_, ?_⟩
  · have := (Ideal.cmp_oge_eq_one _ _).mp e0
    rwa [Ideal.ofBits_zero_f32] at this
  · have := (Ideal.cmp_olt_eq_one _ _).mp e1
    rwa [ofBits_inf] at this

end Cert.Pre_scale_ok
-- ==== Proof.Equal.lean ====
/- The value claim: over equal arguments with nonnegative finite gradient scales, the kernel and the reference leave the
   same three results. -/
module

public import proofs.«01_k».proof.Defs
public import proofs.«01_k».proof.Proof.Gen.KernelIdeal
public import proofs.«01_k».proof.Proof.Gen.ReferenceIdeal
public import proofs.«01_k».proof.Proof.Val.Arrays
public import proofs.«01_k».proof.Proof.Val.Results
public import proofs.«01_k».proof.Proof.Ref.Run
public import proofs.«01_k».proof.Proof.Pre

@[expose] public section

set_option maxRecDepth 16384

noncomputable section

namespace Cert.Proof

open Idealize.ShloMosaic Idealize.SL.Sem Idealize.ShloMosaic.TcCoe

/-- The arguments of the two programs agree. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- Equal argument arrays have equal entries. -/
theorem args_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : Agree m m' c) : Cert.ReferenceIdeal.Hand.args m' c = Cert.KernelIdeal.Hand.args m c := by
  obtain ⟨h0, h1, h2, h3, h4, h5, h6, h7⟩ := h
  unfold Cert.ReferenceIdeal.Hand.args Cert.KernelIdeal.Hand.args
  rw [h0, h1, h2, h3, h4, h5, h6, h7]

/-- THE VALUE CLAIM. -/
theorem algebraic : Cert.algebraic_KernelIdeal_ReferenceIdeal_pre_scale_ok (hKernelIdeal := Cert.KernelIdeal.Gen.facts)
    (hReferenceIdeal := Cert.ReferenceIdeal.Gen.facts) (hPre_scale_ok := Cert.Pre_scale_ok.facts) := by
  intro m g m' g' hpre hagree
  have hb : ∀ c b q, 0 ≤ (Cert.KernelIdeal.Hand.args m c).a7 b q ∧ (Cert.KernelIdeal.Hand.args m c).a7 b q < ⊤ := fun c b q =>
    Cert.Pre_scale_ok.bounds (hpre c) (ix2 b q)
  have h0 := fun c b q => (hb c b q).1
  have h1 := fun c b q => (hb c b q).2
  refine ⟨Cert.KernelIdeal.Hand.out0 m, Cert.KernelIdeal.Hand.out1 m, Cert.KernelIdeal.Hand.out2 m, ?_, ?_⟩
  · exact (θ_run _ _ _).mono (fun r h c => ⟨Cert.KernelIdeal.Hand.res0 m c h.1, Cert.KernelIdeal.Hand.res1 m c h.1,
      Cert.KernelIdeal.Hand.res2 m c h.1, Cert.KernelIdeal.Hand.args_same m h.1 c⟩) (Cert.KernelIdeal.Hand.run_quiescent m g)
  · refine (θ_run _ _ _).mono (fun r h c => ⟨?_, ?_, ?_, h.2 c⟩)
      (θ_run_and ((θ_run _ _ _).mono (fun _ h => h.1) (Cert.ReferenceIdeal.Gen.run_main_quiescent m' g')) (Cert.ReferenceIdeal.Gen.unchanged m' g'))
    · refine funext fun (i : Cert.KernelIdeal.S8x40960x576.Idx) => ?_
      rw [eq_ix3 i]
      refine (Cert.ReferenceIdeal.Hand.ref63 m' c h.1 _ _ _).trans ?_
      rw [args_eq (hagree c)]
      exact (Cert.KernelIdeal.Hand.out0_spec m c (h0 c) (h1 c) _ _ _).symm
    · refine funext fun (i : Cert.KernelIdeal.S8x1280x512.Idx) => ?_
      rw [eq_ix3 i]
      refine (Cert.ReferenceIdeal.Hand.ref65 m' c h.1 _ _ _).trans ?_
      rw [args_eq (hagree c)]
      exact (Cert.KernelIdeal.Hand.out1_spec m c (h0 c) (h1 c) _ _ _).symm
    · refine funext fun (i : Cert.KernelIdeal.S8x1280x64.Idx) => ?_
      rw [eq_ix3 i]
      refine (Cert.ReferenceIdeal.Hand.ref66 m' c h.1 _ _ _).trans ?_
      rw [args_eq (hagree c)]
      exact (Cert.KernelIdeal.Hand.out2_spec m c (h0 c) (h1 c) _ _ _).symm

end Cert.Proof
-- ==== Proof.lean ====
/- Proof of `Cert.Claim`: the three programs run to the end with their arguments unchanged and every counter at
   zero, the kernel's named constants are the numbers they are named, and over the extended reals the kernel and the
   reference leave the same three results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame.Frame
public import proofs.«01_k».proof.Proof.Val.Launch
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_scale_ok.facts,
    fun m g _ => Cert.Kernel.Gen.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    ⟨IdealRules.named_const.statement Cert.KernelIdeal.κ "scale" .f32 0x3D93CD3A#32 _ rfl,
      IdealRules.named_const.statement Cert.KernelIdeal.κ "scale_log2e" .f32 0x3DD53B95#32 _ rfl,
      IdealRules.named_const.statement Cert.KernelIdeal.κ "log2e" .f32 0x3FB8AA3B#32 _ rfl⟩,
    algebraic⟩

end Cert.Proof

end
